-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x512x1280 : Shape := ⟨3, ![16, 512, 1280]⟩
abbrev S16x512x20 : Shape := ⟨3, ![16, 512, 20]⟩
abbrev S1280x10240 : Shape := ⟨2, ![1280, 10240]⟩
abbrev S20x10240 : Shape := ⟨2, ![20, 10240]⟩
abbrev S8192x1280 : Shape := ⟨2, ![8192, 1280]⟩
abbrev S8192x20 : Shape := ⟨2, ![8192, 20]⟩
abbrev S8192x10240 : Shape := ⟨2, ![8192, 10240]⟩
abbrev S1024x1280 : Shape := ⟨2, ![1024, 1280]⟩
abbrev S1024x20 : Shape := ⟨2, ![1024, 20]⟩
abbrev S1280x512 : Shape := ⟨2, ![1280, 512]⟩
abbrev S20x512 : Shape := ⟨2, ![20, 512]⟩
abbrev S1024x512 : Shape := ⟨2, ![1024, 512]⟩
abbrev S8192x2560 : Shape := ⟨2, ![8192, 2560]⟩
abbrev S2560x512 : Shape := ⟨2, ![2560, 512]⟩
abbrev S64x512 : Shape := ⟨2, ![64, 512]⟩
abbrev S16x512 : Shape := ⟨2, ![16, 512]⟩
abbrev S1x512 : Shape := ⟨2, ![1, 512]⟩
abbrev S128x128 : Shape := ⟨2, ![128, 128]⟩
abbrev S128x20 : Shape := ⟨2, ![128, 20]⟩
abbrev S128x108 : Shape := ⟨2, ![128, 108]⟩
abbrev S128x128x1 : Shape := ⟨3, ![128, 128, 1]⟩
abbrev S32x128 : Shape := ⟨2, ![32, 128]⟩
abbrev S1024x2560 : Shape := ⟨2, ![1024, 2560]⟩
abbrev S16x512x10240 : Shape := ⟨3, ![16, 512, 10240]⟩

abbrev nBuf : Space → Nat
  | .hbm => 10
  | .vmem => 14
  | .smem => 0
  | _ => 0

abbrev bufTy : (tb : Table) → Fin (tcTables nBuf tb) → BufTy
  | .hbm, ⟨0, _⟩ => ⟨S16x512x1280, .i8⟩
  | .hbm, ⟨1, _⟩ => ⟨S16x512x20, .f32⟩
  | .hbm, ⟨2, _⟩ => ⟨S16x512x20, .i8⟩
  | .hbm, ⟨3, _⟩ => ⟨S1280x10240, .i8⟩
  | .hbm, ⟨4, _⟩ => ⟨S20x10240, .f32⟩
  | .hbm, ⟨5, _⟩ => ⟨S8192x1280, .i8⟩
  | .hbm, ⟨6, _⟩ => ⟨S8192x20, .f32⟩
  | .hbm, ⟨7, _⟩ => ⟨S8192x20, .i8⟩
  | .hbm, ⟨8, _⟩ => ⟨S8192x10240, .bf16⟩
  | .hbm, ⟨9, _⟩ => ⟨S16x512x10240, .bf16⟩
  | .local _ .vmem, ⟨0, _⟩ => ⟨S1024x1280, .i8⟩
  | .local _ .vmem, ⟨1, _⟩ => ⟨S1024x1280, .i8⟩
  | .local _ .vmem, ⟨2, _⟩ => ⟨S1024x20, .f32⟩
  | .local _ .vmem, ⟨3, _⟩ => ⟨S1024x20, .f32⟩
  | .local _ .vmem, ⟨4, _⟩ => ⟨S1024x20, .i8⟩
  | .local _ .vmem, ⟨5, _⟩ => ⟨S1024x20, .i8⟩
  | .local _ .vmem, ⟨6, _⟩ => ⟨S1280x512, .i8⟩
  | .local _ .vmem, ⟨7, _⟩ => ⟨S1280x512, .i8⟩
  | .local _ .vmem, ⟨8, _⟩ => ⟨S20x512, .f32⟩
  | .local _ .vmem, ⟨9, _⟩ => ⟨S20x512, .f32⟩
  | .local _ .vmem, ⟨10, _⟩ => ⟨S1024x512, .bf16⟩
  | .local _ .vmem, ⟨11, _⟩ => ⟨S1024x512, .bf16⟩
  | .local _ .vmem, ⟨12, _⟩ => ⟨S8192x2560, .bf16⟩
  | .local _ .vmem, ⟨13, _⟩ => ⟨S2560x512, .bf16⟩
  | _, _ => ⟨S16x512x1280, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![20, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let v6 : BitVec 32 := Scalar.extui v5
  let c0_i32_2 : BitVec 32 := 0#32
  let v7 : BitVec 1 := Scalar.cmpi .ne v6 c0_i32_2
  v7

def k0_off1 (i : grid0.Coords) (c0_i32_24 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v84 : BitVec 32 := Scalar.addi v1 c0_i32_24
  let v85 : Index := Scalar.indexCast v84
  let c0_25 : Index := 0#32
  ![v85.toNat, 0]
def k0_off2 (i : grid0.Coords) (c0_i32_27 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v95 : BitVec 32 := Scalar.addi v1 c0_i32_27
  let v96 : Index := Scalar.indexCast v95
  let c1280 : Index := 1280#32
  ![v96.toNat, 1280]
def k0_off3 (i : grid0.Coords) (c0_i32_35 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v131 : BitVec 32 := Scalar.addi v1 c0_i32_35
  let v132 : Index := Scalar.indexCast v131
  let c128_36 : Index := 128#32
  ![v132.toNat, 128]
def k0_off4 (i : grid0.Coords) (c0_i32_38 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v142 : BitVec 32 := Scalar.addi v1 c0_i32_38
  let v143 : Index := Scalar.indexCast v142
  let c1408 : Index := 1408#32
  ![v143.toNat, 1408]
def k0_off5 (i : grid0.Coords) (c0_i32_47 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v178 : BitVec 32 := Scalar.addi v1 c0_i32_47
  let v179 : Index := Scalar.indexCast v178
  let c256_48 : Index := 256#32
  ![v179.toNat, 256]
def k0_off6 (i : grid0.Coords) (c0_i32_50 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v189 : BitVec 32 := Scalar.addi v1 c0_i32_50
  let v190 : Index := Scalar.indexCast v189
  let c1536 : Index := 1536#32
  ![v190.toNat, 1536]
def k0_off7 (i : grid0.Coords) (c0_i32_58 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v225 : BitVec 32 := Scalar.addi v1 c0_i32_58
  let v226 : Index := Scalar.indexCast v225
  let c384_59 : Index := 384#32
  ![v226.toNat, 384]
def k0_off8 (i : grid0.Coords) (c0_i32_61 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v236 : BitVec 32 := Scalar.addi v1 c0_i32_61
  let v237 : Index := Scalar.indexCast v236
  let c1664 : Index := 1664#32
  ![v237.toNat, 1664]
def k0_off9 (i : grid0.Coords) (c0_i32_69 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v272 : BitVec 32 := Scalar.addi v1 c0_i32_69
  let v273 : Index := Scalar.indexCast v272
  let c512_70 : Index := 512#32
  ![v273.toNat, 512]
def k0_off10 (i : grid0.Coords) (c0_i32_72 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v283 : BitVec 32 := Scalar.addi v1 c0_i32_72
  let v284 : Index := Scalar.indexCast v283
  let c1792 : Index := 1792#32
  ![v284.toNat, 1792]
def k0_off11 (i : grid0.Coords) (c0_i32_80 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v319 : BitVec 32 := Scalar.addi v1 c0_i32_80
  let v320 : Index := Scalar.indexCast v319
  let c640_81 : Index := 640#32
  ![v320.toNat, 640]
def k0_off12 (i : grid0.Coords) (c0_i32_83 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v330 : BitVec 32 := Scalar.addi v1 c0_i32_83
  let v331 : Index := Scalar.indexCast v330
  let c1920 : Index := 1920#32
  ![v331.toNat, 1920]
def k0_off13 (i : grid0.Coords) (c0_i32_91 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v366 : BitVec 32 := Scalar.addi v1 c0_i32_91
  let v367 : Index := Scalar.indexCast v366
  let c768_92 : Index := 768#32
  ![v367.toNat, 768]
def k0_off14 (i : grid0.Coords) (c0_i32_94 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v377 : BitVec 32 := Scalar.addi v1 c0_i32_94
  let v378 : Index := Scalar.indexCast v377
  let c2048 : Index := 2048#32
  ![v378.toNat, 2048]
def k0_off15 (i : grid0.Coords) (c0_i32_102 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v413 : BitVec 32 := Scalar.addi v1 c0_i32_102
  let v414 : Index := Scalar.indexCast v413
  let c896_103 : Index := 896#32
  ![v414.toNat, 896]
def k0_off16 (i : grid0.Coords) (c0_i32_105 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v424 : BitVec 32 := Scalar.addi v1 c0_i32_105
  let v425 : Index := Scalar.indexCast v424
  let c2176 : Index := 2176#32
  ![v425.toNat, 2176]
def k0_off17 (i : grid0.Coords) (c0_i32_113 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v460 : BitVec 32 := Scalar.addi v1 c0_i32_113
  let v461 : Index := Scalar.indexCast v460
  let c1024_114 : Index := 1024#32
  ![v461.toNat, 1024]
def k0_off18 (i : grid0.Coords) (c0_i32_116 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v471 : BitVec 32 := Scalar.addi v1 c0_i32_116
  let v472 : Index := Scalar.indexCast v471
  let c2304 : Index := 2304#32
  ![v472.toNat, 2304]
def k0_off19 (i : grid0.Coords) (c0_i32_124 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v507 : BitVec 32 := Scalar.addi v1 c0_i32_124
  let v508 : Index := Scalar.indexCast v507
  let c1152_125 : Index := 1152#32
  ![v508.toNat, 1152]
def k0_off20 (i : grid0.Coords) (c0_i32_127 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v518 : BitVec 32 := Scalar.addi v1 c0_i32_127
  let v519 : Index := Scalar.indexCast v518
  let c2432 : Index := 2432#32
  ![v519.toNat, 2432]
def k0_off21 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v8 : Index := Scalar.indexCast v1
  let c0 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1280 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x20 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1280x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S20x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x512x1280 : Shape := ⟨3, ![16, 512, 1280]⟩
abbrev S16x512x20 : Shape := ⟨3, ![16, 512, 20]⟩
abbrev S1280x10240 : Shape := ⟨2, ![1280, 10240]⟩
abbrev S20x10240 : Shape := ⟨2, ![20, 10240]⟩
abbrev S_ : Shape := ⟨0, ![]⟩
abbrev S16x512x20x64 : Shape := ⟨4, ![16, 512, 20, 64]⟩
abbrev S16x512x20x1 : Shape := ⟨4, ![16, 512, 20, 1]⟩
abbrev S20x64x10240 : Shape := ⟨3, ![20, 64, 10240]⟩
abbrev S20x1x10240 : Shape := ⟨3, ![20, 1, 10240]⟩
abbrev S16x512x10240 : Shape := ⟨3, ![16, 512, 10240]⟩

abbrev nBuf : Space → Nat
  | .hbm => 73
  | .vmem => 0
  | .smem => 0
  | _ => 0

abbrev bufTy : (tb : Table) → Fin (tcTables nBuf tb) → BufTy
  | .hbm, ⟨0, _⟩ => ⟨S16x512x1280, .i8⟩
  | .hbm, ⟨1, _⟩ => ⟨S16x512x20, .f32⟩
  | .hbm, ⟨2, _⟩ => ⟨S16x512x20, .i8⟩
  | .hbm, ⟨3, _⟩ => ⟨S1280x10240, .i8⟩
  | .hbm, ⟨4, _⟩ => ⟨S20x10240, .f32⟩
  | .hbm, ⟨5, _⟩ => ⟨S16x512x1280, .i32⟩
  | .hbm, ⟨6, _⟩ => ⟨S_, .i32⟩
  | .hbm, ⟨7, _⟩ => ⟨S16x512x1280, .i32⟩
  | .hbm, ⟨8, _⟩ => ⟨S16x512x1280, .i32⟩
  | .hbm, ⟨9, _⟩ => ⟨S16x512x20x64, .i32⟩
  | .hbm, ⟨10, _⟩ => ⟨S16x512x20, .i32⟩
  | .hbm, ⟨11, _⟩ => ⟨S16x512x20x1, .i32⟩
  | .hbm, ⟨12, _⟩ => ⟨S16x512x20x64, .i32⟩
  | .hbm, ⟨13, _⟩ => ⟨S16x512x20x64, .i32⟩
  | .hbm, ⟨14, _⟩ => ⟨S16x512x20x64, .bf16⟩
  | .hbm, ⟨15, _⟩ => ⟨S16x512x20, .bf16⟩
  | .hbm, ⟨16, _⟩ => ⟨S16x512x20x1, .bf16⟩
  | .hbm, ⟨17, _⟩ => ⟨S16x512x20x64, .bf16⟩
  | .hbm, ⟨18, _⟩ => ⟨S16x512x20x64, .bf16⟩
  | .hbm, ⟨19, _⟩ => ⟨S16x512x1280, .bf16⟩
  | .hbm, ⟨20, _⟩ => ⟨S_, .i32⟩
  | .hbm, ⟨21, _⟩ => ⟨S16x512x1280, .i32⟩
  | .hbm, ⟨22, _⟩ => ⟨S16x512x1280, .i32⟩
  | .hbm, ⟨23, _⟩ => ⟨S16x512x20x64, .i32⟩
  | .hbm, ⟨24, _⟩ => ⟨S16x512x20, .i32⟩
  | .hbm, ⟨25, _⟩ => ⟨S16x512x20x1, .i32⟩
  | .hbm, ⟨26, _⟩ => ⟨S16x512x20x64, .i32⟩
  | .hbm, ⟨27, _⟩ => ⟨S16x512x20x64, .i32⟩
  | .hbm, ⟨28, _⟩ => ⟨S16x512x20x64, .bf16⟩
  | .hbm, ⟨29, _⟩ => ⟨S16x512x20, .bf16⟩
  | .hbm, ⟨30, _⟩ => ⟨S16x512x20x1, .bf16⟩
  | .hbm, ⟨31, _⟩ => ⟨S16x512x20x64, .bf16⟩
  | .hbm, ⟨32, _⟩ => ⟨S16x512x20x64, .bf16⟩
  | .hbm, ⟨33, _⟩ => ⟨S16x512x1280, .bf16⟩
  | .hbm, ⟨34, _⟩ => ⟨S1280x10240, .i32⟩
  | .hbm, ⟨35, _⟩ => ⟨S_, .i32⟩
  | .hbm, ⟨36, _⟩ => ⟨S1280x10240, .i32⟩
  | .hbm, ⟨37, _⟩ => ⟨S1280x10240, .i32⟩
  | .hbm, ⟨38, _⟩ => ⟨S_, .i32⟩
  | .hbm, ⟨39, _⟩ => ⟨S1280x10240, .i32⟩
  | .hbm, ⟨40, _⟩ => ⟨S1280x10240, .i1⟩
  | .hbm, ⟨41, _⟩ => ⟨S_, .i32⟩
  | .hbm, ⟨42, _⟩ => ⟨S1280x10240, .i32⟩
  | .hbm, ⟨43, _⟩ => ⟨S1280x10240, .i32⟩
  | .hbm, ⟨44, _⟩ => ⟨S1280x10240, .i32⟩
  | .hbm, ⟨45, _⟩ => ⟨S1280x10240, .bf16⟩
  | .hbm, ⟨46, _⟩ => ⟨S20x64x10240, .bf16⟩
  | .hbm, ⟨47, _⟩ => ⟨S20x10240, .bf16⟩
  | .hbm, ⟨48, _⟩ => ⟨S20x1x10240, .bf16⟩
  | .hbm, ⟨49, _⟩ => ⟨S20x64x10240, .bf16⟩
  | .hbm, ⟨50, _⟩ => ⟨S20x64x10240, .bf16⟩
  | .hbm, ⟨51, _⟩ => ⟨S1280x10240, .bf16⟩
  | .hbm, ⟨52, _⟩ => ⟨S_, .i32⟩
  | .hbm, ⟨53, _⟩ => ⟨S1280x10240, .i32⟩
  | .hbm, ⟨54, _⟩ => ⟨S1280x10240, .i32⟩
  | .hbm, ⟨55, _⟩ => ⟨S_, .i32⟩
  | .hbm, ⟨56, _⟩ => ⟨S1280x10240, .i32⟩
  | .hbm, ⟨57, _⟩ => ⟨S1280x10240, .i1⟩
  | .hbm, ⟨58, _⟩ => ⟨S_, .i32⟩
  | .hbm, ⟨59, _⟩ => ⟨S1280x10240, .i32⟩
  | .hbm, ⟨60, _⟩ => ⟨S1280x10240, .i32⟩
  | .hbm, ⟨61, _⟩ => ⟨S1280x10240, .i32⟩
  | .hbm, ⟨62, _⟩ => ⟨S1280x10240, .bf16⟩
  | .hbm, ⟨63, _⟩ => ⟨S20x64x10240, .bf16⟩
  | .hbm, ⟨64, _⟩ => ⟨S20x10240, .bf16⟩
  | .hbm, ⟨65, _⟩ => ⟨S20x1x10240, .bf16⟩
  | .hbm, ⟨66, _⟩ => ⟨S20x64x10240, .bf16⟩
  | .hbm, ⟨67, _⟩ => ⟨S20x64x10240, .bf16⟩
  | .hbm, ⟨68, _⟩ => ⟨S1280x10240, .bf16⟩
  | .hbm, ⟨69, _⟩ => ⟨S16x512x10240, .f32⟩
  | .hbm, ⟨70, _⟩ => ⟨S16x512x10240, .f32⟩
  | .hbm, ⟨71, _⟩ => ⟨S16x512x10240, .f32⟩
  | .hbm, ⟨72, _⟩ => ⟨S16x512x10240, .bf16⟩
  | _, _ => ⟨S16x512x1280, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_1 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_4 : Ref sig .tc := ⟨.hbm, 52, rfl⟩
abbrev main_v42 : Ref sig .tc := ⟨.hbm, 53, rfl⟩
abbrev main_v43 : Ref sig .tc := ⟨.hbm, 54, rfl⟩
abbrev main_c_5 : Ref sig .tc := ⟨.hbm, 55, rfl⟩
abbrev main_v44 : Ref sig .tc := ⟨.hbm, 56, rfl⟩
abbrev main_v45 : Ref sig .tc := ⟨.hbm, 57, rfl⟩
abbrev main_c_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== Proof.Points.lean ====
/- The branch conditions of the kernel's body in closed form over the grid's points, the memrefs the body is called on,
   and the invariant of the pipeline spelt over the two scratch buffers. -/
module

public import proofs.«01_k».proof.Proof.Gen.KernelIdeal.Frame
public import proofs.«01_k».proof.Proof.Gen.KernelIdeal.Skeleton
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 160 := Nat.lt_of_lt_of_eq t.isLt N_0
    have e0 : (grid0.coords t 0).val = t.val / 8 % 20 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points before point 8 — by arithmetic of the point. -/
theorem hcond0_1 : ∀ t : Fin cfg0.N, cond0_1 (grid0.coords t) ↔ t.val < 8 :=
  (fun t => by
    have ht : t.val < 160 := Nat.lt_of_lt_of_eq t.isLt N_0
    have e0 : (grid0.coords t 0).val = t.val / 8 % 20 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val < 8)

/-! ## The kernel body on any staging memrefs: a subtype the run finds -/

/-- Each window's current staging memref at point `t`, spelled as the pipeline passes it (`bodyAt0`), and its wholeness. -/
abbrev ms0_0 (t : Fin cfg0.N) : Memref sig .tc .vmem S1024x1280 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x20 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x20 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S20x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8192x2560 .bf16 := Memref.whole cc0_scratch0
abbrev scM0_1 : Memref sig .tc .vmem S2560x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Blocks.lean ====
/- The stores of one grid point, spelt uniformly. The kernel prints one store per 128 x 128 tile of the dequantized
   activations (160 of them) and one per 64-row group of the dequantized weights (40 of them); here each family is one
   list built from one payload. -/
module

public import proofs.«01_k».proof.Proof.Points

@[expose] public section

set_option maxRecDepth 16384

noncomputable section

namespace Cert.KernelIdeal.Gen

open Idealize.ShloMosaic Idealize.ShloMosaic.TcCoe
open Idealize.SL.Sem

variable {F : FTy → Type} [FloatOps F]

/-! ## The payloads -/

/-- The lane index a tile gathers its scales and zero points at: lane `l` of the tile reads group `l / 64 + w`. -/
def actIdx (w : BitVec 32) : IVec S128x128 32 := addi k0_pay97 (broadcast S128x128 w)

/-- The tile of low nibbles, dequantized: codes, scales and zero points of 128 rows, `w` the tile's first group. -/
def actLo (w : BitVec 32) (q : Vec F S128x128 .i8) (s : Vec F S128x20 .f32) (z : Vec F S128x20 .i8) : FVec F S128x128 .bf16 :=
  k0_pay657 (k0_pay98 s) (k0_pay99 z) (actIdx w) q

/-- The tile of high nibbles, dequantized. -/
def actHi (w : BitVec 32) (q : Vec F S128x128 .i8) (s : Vec F S128x20 .f32) (z : Vec F S128x20 .i8) : FVec F S128x128 .bf16 :=
  k0_pay658 (k0_pay98 s) (k0_pay99 z) (actIdx w) q

/-- Row `g` of the weights' scales. -/
def wRow (g : Fin 20) (s : Vec F S20x512 .f32) : FVec F S1x512 .bf16 :=
  extractStridedSlice S1x512 ![g.val, 0] (k0_pay5 s)
    ⟨rfl, fun a => by match a with | ⟨0, _⟩ => exact g.isLt | ⟨1, _⟩ => exact Nat.le_refl 512⟩

/-- A 64-row group of signed weights from the words holding sixteen times each, scaled by row `g` of the scales. -/
def wScaled (g : Fin 20) (s : Vec F S20x512 .f32) (q : IVec S16x512 32) : FVec F S64x512 .bf16 :=
  shapeCast S64x512
    (mulf (mulf (sitofp .bf16 (bitcast S64x512 8 (andi q (broadcast S16x512 4042322160#32)) bitcasts_S16x512_w32_S64x512_w8))
        (broadcast S64x512 (Scalar.ofBits .bf16 0x3D80#16)))
      (broadcastTo S64x512 (wRow g s) broadcasts_S1x512_S64x512))
    shapeCasts_S64x512_S64x512

/-- The low nibbles of a 64-row group of weights, dequantized. -/
def wLo (g : Fin 20) (s : Vec F S20x512 .f32) (q : Vec F S64x512 .i8) : FVec F S64x512 .bf16 :=
  wScaled g s (shli (k0_pay6 q) (broadcast S16x512 4#32))

/-- The high nibbles of a 64-row group of weights, dequantized. -/
def wHi (g : Fin 20) (s : Vec F S20x512 .f32) (q : Vec F S64x512 .i8) : FVec F S64x512 .bf16 :=
  wScaled g s (k0_pay6 q)

/-! ## The blocks a payload reads -/

/-- The 128 x 128 tile of codes at row tile `r`, column tile `c`. -/
def codeTile (x : Vec F S1024x1280 .i8) (r : Fin 8) (c : Fin 10) : Vec F S128x128 .i8 :=
  View.ld x (Rect.unit (s := S1024x1280) ![128 * r.val, 128 * c.val] S128x128.size
    (fun a => by match a with | ⟨0, _⟩ => show 128 * r.val + 128 ≤ 1024; omega | ⟨1, _⟩ => show 128 * c.val + 128 ≤ 1280; omega))

/-- The 128 rows of row tile `r` of a per-group table. -/
def groupRows {e : EltTy} (x : Vec F S1024x20 e) (r : Fin 8) : Vec F S128x20 e :=
  View.ld x (Rect.unit (s := S1024x20) ![128 * r.val, 0] S128x20.size
    (fun a => by match a with | ⟨0, _⟩ => show 128 * r.val + 128 ≤ 1024; omega | ⟨1, _⟩ => show 0 + 20 ≤ 20; omega))

/-- The 64 rows of group `g` of the packed weights. -/
def codeRows (x : Vec F S1280x512 .i8) (g : Fin 20) : Vec F S64x512 .i8 :=
  View.ld x (Rect.unit (s := S1280x512) ![64 * g.val, 0] S64x512.size
    (fun a => by match a with | ⟨0, _⟩ => show 64 * g.val + 64 ≤ 1280; omega | ⟨1, _⟩ => show 0 + 512 ≤ 512; omega))

/-! ## The lists of stores -/

/-- The rectangle of the tile at row tile `r` and lanes `k` onwards of the row band `m`. -/
def actRect (m r : Fin 8) (k : ℕ) (hk : k + 128 ≤ 2560) : Rect S8192x2560 :=
  Rect.unit (s := S8192x2560) ![1024 * m.val + 128 * r.val, k] S128x128.size
    (fun a => by match a with | ⟨0, _⟩ => show 1024 * m.val + 128 * r.val + 128 ≤ 8192; omega | ⟨1, _⟩ => exact hk)

/-- The two stores of tile `(r, c)`, the later first. -/
def actPair (m : Fin 8) (x0 : Vec F S1024x1280 .i8) (x1 : Vec F S1024x20 .f32) (x2 : Vec F S1024x20 .i8) (r : Fin 8) (c : Fin 10) :
    List (View.Piece (Elt F) S8192x2560 .bf16) :=
  [⟨actRect m r (1280 + 128 * c.val) (by omega), actHi (BitVec.ofNat 32 (2 * c.val)) (codeTile x0 r c) (groupRows x1 r) (groupRows x2 r)⟩,
   ⟨actRect m r (128 * c.val) (by omega), actLo (BitVec.ofNat 32 (2 * c.val)) (codeTile x0 r c) (groupRows x1 r) (groupRows x2 r)⟩]

/-- The 160 stores into the dequantized activations, the last first. -/
def actPieces (m : Fin 8) (x0 : Vec F S1024x1280 .i8) (x1 : Vec F S1024x20 .f32) (x2 : Vec F S1024x20 .i8) :
    List (View.Piece (Elt F) S8192x2560 .bf16) :=
  ([7, 6, 5, 4, 3, 2, 1, 0] : List (Fin 8)).flatMap fun r =>
    ([9, 8, 7, 6, 5, 4, 3, 2, 1, 0] : List (Fin 10)).flatMap fun c => actPair m x0 x1 x2 r c

/-- The rectangle of 64 rows from row `k` of the dequantized weights. -/
def wRect (k : ℕ) (hk : k + 64 ≤ 2560) : Rect S2560x512 :=
  Rect.unit (s := S2560x512) ![k, 0] S64x512.size
    (fun a => by match a with | ⟨0, _⟩ => exact hk | ⟨1, _⟩ => show 0 + 512 ≤ 512; omega)

/-- The two stores of group `g`, the later first. -/
def wPair (x3 : Vec F S1280x512 .i8) (x4 : Vec F S20x512 .f32) (g : Fin 20) : List (View.Piece (Elt F) S2560x512 .bf16) :=
  [⟨wRect (1280 + 64 * g.val) (by omega), wHi g x4 (codeRows x3 g)⟩, ⟨wRect (64 * g.val) (by omega), wLo g x4 (codeRows x3 g)⟩]

/-- The 40 stores into the dequantized weights, the last first. -/
def wPieces (x3 : Vec F S1280x512 .i8) (x4 : Vec F S20x512 .f32) : List (View.Piece (Elt F) S2560x512 .bf16) :=
  ([19, 18, 17, 16, 15, 14, 13, 12, 11, 10, 9, 8, 7, 6, 5, 4, 3, 2, 1, 0] : List (Fin 20)).flatMap fun g => wPair x3 x4 g

end Cert.KernelIdeal.Gen

end
-- ==== Proof.Fill.lean ====
/- What a point's stores leave: after the 160 stores the row band of the dequantized activations holds one function of the
   point's blocks and every other row is kept; after the 40 stores the dequantized weights hold one function of theirs. -/
module

public import proofs.«01_k».proof.Proof.Blocks
public import Idealize.ShloMosaic.Lib.Pipeline.Value
public import Idealize.ShloMosaic.Lib.Pipeline.ValueKit.Tiles
public import Idealize.ShloMosaic.Lib.ValueIdxCore

@[expose] public section

set_option maxRecDepth 16384

noncomputable section

namespace Cert.KernelIdeal.Gen

open Idealize.ShloMosaic Idealize.ShloMosaic.TcCoe
open Idealize.SL.Sem
open Idealize.ShloMosaic.ValueIdx (ix2 eq_ix2)

variable {F : FTy → Type} [FloatOps F]

/-- The dequantized band of one row block: lanes below 1280 from the low nibbles, the others from the high nibbles. -/
def actBand (x0 : Vec F S1024x1280 .i8) (x1 : Vec F S1024x20 .f32) (x2 : Vec F S1024x20 .i8) (a : Fin 1024) (k : Fin 2560) :
    F .bf16 :=
  if h : k.val < 1280 then
    actLo (BitVec.ofNat 32 (2 * (k.val / 128))) (codeTile x0 ⟨a.val / 128, by omega⟩ ⟨k.val / 128, by omega⟩)
      (groupRows x1 ⟨a.val / 128, by omega⟩) (groupRows x2 ⟨a.val / 128, by omega⟩)
      (ix2 (⟨a.val % 128, by omega⟩ : Fin 128) (⟨k.val % 128, by omega⟩ : Fin 128))
  else
    actHi (BitVec.ofNat 32 (2 * ((k.val - 1280) / 128))) (codeTile x0 ⟨a.val / 128, by omega⟩ ⟨(k.val - 1280) / 128, by omega⟩)
      (groupRows x1 ⟨a.val / 128, by omega⟩) (groupRows x2 ⟨a.val / 128, by omega⟩)
      (ix2 (⟨a.val % 128, by omega⟩ : Fin 128) (⟨(k.val - 1280) % 128, by omega⟩ : Fin 128))

/-- The dequantized activations with row band `m` filled, over earlier contents `d`. -/
def actAfter (m : Fin 8) (x0 : Vec F S1024x1280 .i8) (x1 : Vec F S1024x20 .f32) (x2 : Vec F S1024x20 .i8)
    (d : S8192x2560.Idx → Elt F .bf16) : S8192x2560.Idx → Elt F .bf16 := fun y =>
  if h : 1024 * m.val ≤ (y 0).val ∧ (y 0).val < 1024 * m.val + 1024 then
    actBand x0 x1 x2 ⟨(y 0).val - 1024 * m.val, by omega⟩ (y 1)
  else d y

/-- The dequantized weights of one column block. -/
def wAll (x3 : Vec F S1280x512 .i8) (x4 : Vec F S20x512 .f32) : S2560x512.Idx → Elt F .bf16 := fun y =>
  if h : (y 0).val < 1280 then
    wLo ⟨(y 0).val / 64, by omega⟩ x4 (codeRows x3 ⟨(y 0).val / 64, by omega⟩) (ix2 (⟨(y 0).val % 64, by omega⟩ : Fin 64) (y 1))
  else
    wHi ⟨((y 0).val - 1280) / 64, by have : (y 0).val < 2560 := (y 0).isLt; omega⟩ x4
      (codeRows x3 ⟨((y 0).val - 1280) / 64, by have : (y 0).val < 2560 := (y 0).isLt; omega⟩)
      (ix2 (⟨((y 0).val - 1280) % 64, by omega⟩ : Fin 64) (y 1))

/-! ## The activations -/

/-- The row and lane of an element of a tile. -/
theorem actRect_emb (m r : Fin 8) (k : ℕ) (hk : k + 128 ≤ 2560) (x : S128x128.Idx) :
    ((actRect m r k hk).emb x 0).val = 1024 * m.val + 128 * r.val + (x 0).val
      ∧ ((actRect m r k hk).emb x 1).val = k + (x 1).val :=
  ⟨Rect.idx_unit_val (s := S8192x2560) _ _ _ x 0, Rect.idx_unit_val (s := S8192x2560) _ _ _ x 1⟩

/-- Which elements a tile has. -/
theorem mem_actRect (m r : Fin 8) (k : ℕ) (hk : k + 128 ≤ 2560) (y : S8192x2560.Idx) :
    y ∈ (actRect m r k hk).set ↔ (1024 * m.val + 128 * r.val ≤ (y 0).val ∧ (y 0).val < 1024 * m.val + 128 * r.val + 128)
      ∧ (k ≤ (y 1).val ∧ (y 1).val < k + 128) := by
  unfold actRect
  rw [Rect.mem_set_unit]
  exact ⟨fun h => ⟨h 0, h 1⟩, fun h a => match a with | ⟨0, _⟩ => h.1 | ⟨1, _⟩ => h.2⟩

/-- Inside tile `(r, c)` the band of low nibbles is the tile's payload. -/
theorem actBand_lo (x0 : Vec F S1024x1280 .i8) (x1 : Vec F S1024x20 .f32) (x2 : Vec F S1024x20 .i8) (r : Fin 8) (c : Fin 10)
    (u v : Fin 128) (a : Fin 1024) (k : Fin 2560) (ha : a.val = 128 * r.val + u.val) (hk : k.val = 128 * c.val + v.val) :
    actBand x0 x1 x2 a k
      = actLo (BitVec.ofNat 32 (2 * c.val)) (codeTile x0 r c) (groupRows x1 r) (groupRows x2 r) (ix2 u v) := by
  have h1 : a.val / 128 = r.val := by omega
  have h2 : a.val % 128 = u.val := by omega
  have h3 : k.val / 128 = c.val := by omega
  have h4 : k.val % 128 = v.val := by omega
  unfold actBand
  rw [dif_pos (by omega)]
  simp only [h1, h2, h3, h4, Fin.eta]

/-- Inside tile `(r, c)` the band of high nibbles is the tile's payload. -/
theorem actBand_hi (x0 : Vec F S1024x1280 .i8) (x1 : Vec F S1024x20 .f32) (x2 : Vec F S1024x20 .i8) (r : Fin 8) (c : Fin 10)
    (u v : Fin 128) (a : Fin 1024) (k : Fin 2560) (ha : a.val = 128 * r.val + u.val) (hk : k.val = 1280 + 128 * c.val + v.val) :
    actBand x0 x1 x2 a k
      = actHi (BitVec.ofNat 32 (2 * c.val)) (codeTile x0 r c) (groupRows x1 r) (groupRows x2 r) (ix2 u v) := by
  have h1 : a.val / 128 = r.val := by omega
  have h2 : a.val % 128 = u.val := by omega
  have h3 : (k.val - 1280) / 128 = c.val := by omega
  have h4 : (k.val - 1280) % 128 = v.val := by omega
  unfold actBand
  rw [dif_neg (by omega)]
  simp only [h1, h2, h3, h4, Fin.eta]

/-- Membership in the list of activation stores. -/
theorem mem_actPieces (m : Fin 8) (x0 : Vec F S1024x1280 .i8) (x1 : Vec F S1024x20 .f32) (x2 : Vec F S1024x20 .i8)
    (p : View.Piece (Elt F) S8192x2560 .bf16) :
    p ∈ actPieces m x0 x1 x2 ↔ ∃ (r : Fin 8) (c : Fin 10), p ∈ actPair m x0 x1 x2 r c := by
  unfold actPieces
  simp only [List.mem_flatMap]
  constructor
  · rintro ⟨r, -, c, -, h⟩; exact ⟨r, c, h⟩
  · rintro ⟨r, c, h⟩
    exact ⟨r, by fin_cases r <;> decide, c, by fin_cases c <;> decide, h⟩

/-- Every activation store agrees with the filled array, whatever that held before. -/
theorem actPieces_agree (m : Fin 8) (x0 : Vec F S1024x1280 .i8) (x1 : Vec F S1024x20 .f32) (x2 : Vec F S1024x20 .i8)
    (d : S8192x2560.Idx → Elt F .bf16) :
    ∀ p ∈ actPieces m x0 x1 x2, ∀ x : p.1.shape.Idx, p.2 x = actAfter m x0 x1 x2 d (p.1.emb x) := by
  intro p hp
  obtain ⟨r, c, hp⟩ := (mem_actPieces m x0 x1 x2 p).mp hp
  simp only [actPair, List.mem_cons, List.not_mem_nil, or_false] at hp
  rcases hp with rfl | rfl
  · intro (x : S128x128.Idx)
    obtain ⟨e0, e1⟩ := actRect_emb m r (1280 + 128 * c.val) (by omega) x
    have hx0 : (x 0).val < 128 := (x 0).isLt
    show _ = actAfter m x0 x1 x2 d ((actRect m r (1280 + 128 * c.val) (by omega)).emb x)
    unfold actAfter
    rw [dif_pos ⟨by omega, by omega⟩]
    exact (congrArg _ (eq_ix2 x)).trans
      (actBand_hi x0 x1 x2 r c (x 0) (x 1) _ _ (by show _ - _ = _; omega) (by omega)).symm
  · intro (x : S128x128.Idx)
    obtain ⟨e0, e1⟩ := actRect_emb m r (128 * c.val) (by omega) x
    have hx0 : (x 0).val < 128 := (x 0).isLt
    show _ = actAfter m x0 x1 x2 d ((actRect m r (128 * c.val) (by omega)).emb x)
    unfold actAfter
    rw [dif_pos ⟨by omega, by omega⟩]
    exact (congrArg _ (eq_ix2 x)).trans
      (actBand_lo x0 x1 x2 r c (x 0) (x 1) _ _ (by show _ - _ = _; omega) (by omega)).symm

/-- Some activation store covers each element of the band. -/
theorem actPieces_cover (m : Fin 8) (x0 : Vec F S1024x1280 .i8) (x1 : Vec F S1024x20 .f32) (x2 : Vec F S1024x20 .i8)
    (y : S8192x2560.Idx) (h : 1024 * m.val ≤ (y 0).val ∧ (y 0).val < 1024 * m.val + 1024) :
    ∃ p ∈ actPieces m x0 x1 x2, y ∈ p.1.set := by
  have h1 : (y 1).val < 2560 := (y 1).isLt
  by_cases hk : (y 1).val < 1280
  · exact ⟨_, (mem_actPieces m x0 x1 x2 _).mpr ⟨⟨((y 0).val - 1024 * m.val) / 128, by omega⟩, ⟨(y 1).val / 128, by omega⟩,
      List.mem_cons_of_mem _ (List.mem_cons_self ..)⟩,
      (mem_actRect _ _ (128 * ((y 1).val / 128)) (by omega) y).mpr (by dsimp only; omega)⟩
  · exact ⟨_, (mem_actPieces m x0 x1 x2 _).mpr ⟨⟨((y 0).val - 1024 * m.val) / 128, by omega⟩,
      ⟨((y 1).val - 1280) / 128, by omega⟩, List.mem_cons_self ..⟩,
      (mem_actRect _ _ (1280 + 128 * (((y 1).val - 1280) / 128)) (by omega) y).mpr (by dsimp only; omega)⟩

/-- No activation store touches a row outside the band. -/
theorem actPieces_off (m : Fin 8) (x0 : Vec F S1024x1280 .i8) (x1 : Vec F S1024x20 .f32) (x2 : Vec F S1024x20 .i8)
    (y : S8192x2560.Idx) (h : ¬ (1024 * m.val ≤ (y 0).val ∧ (y 0).val < 1024 * m.val + 1024)) :
    ∀ p ∈ actPieces m x0 x1 x2, y ∉ p.1.set := by
  intro p hp hy
  obtain ⟨r, c, hp⟩ := (mem_actPieces m x0 x1 x2 p).mp hp
  simp only [actPair, List.mem_cons, List.not_mem_nil, or_false] at hp
  rcases hp with rfl | rfl
  · have h0 := ((mem_actRect m r (1280 + 128 * c.val) (by omega) y).mp hy).1
    omega
  · have h0 := ((mem_actRect m r (128 * c.val) (by omega) y).mp hy).1
    omega

/-- After the 160 stores the buffer reads as the filled array. -/
theorem read_writes_act {κ : Kind} {sp : Space} (v : View sig κ sp S8192x2560 .bf16) (f : v.ty.Contents (Elt F)) (m : Fin 8)
    (x0 : Vec F S1024x1280 .i8) (x1 : Vec F S1024x20 .f32) (x2 : Vec F S1024x20 .i8) :
    v.read (Elt F) (v.writes (Elt F) f (actPieces m x0 x1 x2)) = actAfter m x0 x1 x2 (v.read (Elt F) f) := by
  funext y
  by_cases h : 1024 * m.val ≤ (y 0).val ∧ (y 0).val < 1024 * m.val + 1024
  · exact View.read_writes_apply_of_pieces v f _ _ (actPieces_agree m x0 x1 x2 _) y (actPieces_cover m x0 x1 x2 y h)
  · rw [View.read_writes_apply_of_forall_not_mem v f y _ (actPieces_off m x0 x1 x2 y h)]
    unfold actAfter
    rw [dif_neg h]

/-- A row band lies inside the array. -/
theorem band_inb (m : Fin 8) (a : Fin S8192x2560.rank) :
    (![1024 * m.val, 0] : Fin 2 → ℕ) a + S1024x2560.size a ≤ S8192x2560.size a :=
  match a with
  | ⟨0, _⟩ => by show 1024 * m.val + 1024 ≤ 8192; omega
  | ⟨1, _⟩ => by show 0 + 2560 ≤ 2560; omega

/-- The row band `m` of the activations. -/
def bandRect (m : Fin 8) : Rect S8192x2560 :=
  Rect.unit (s := S8192x2560) ![1024 * m.val, 0] S1024x2560.size (band_inb m)

/-- A load of the band after the stores reads the filled array. -/
theorem readCov_act {κ : Kind} {sp : Space} (v : View sig κ sp S8192x2560 .bf16) (m : Fin 8)
    (x0 : Vec F S1024x1280 .i8) (x1 : Vec F S1024x20 .f32) (x2 : Vec F S1024x20 .i8) (d : S8192x2560.Idx → Elt F .bf16) :
    v.readCov (actPieces m x0 x1 x2) (bandRect m).toLoadRect = View.ld (actAfter m x0 x1 x2 d) (bandRect m) := by
  rw [View.readCov_eq_canon']
  funext j
  refine View.canon_apply_of_pieces _ _ (actPieces_agree m x0 x1 x2 d) _ (actPieces_cover m x0 x1 x2 _ ?_)
  have e0 : (((bandRect m).idx j) 0).val = 1024 * m.val + (j 0).val := Rect.idx_unit_val (s := S8192x2560) _ _ _ j 0
  have hj : (j 0).val < 1024 := (j 0).isLt
  exact ⟨by show _ ≤ (((bandRect m).idx j) 0).val; omega, by show (((bandRect m).idx j) 0).val < _; omega⟩

/-- The same load through an offset equal to the band's. -/
theorem readCov_act_at {κ : Kind} {sp : Space} (v : View sig κ sp S8192x2560 .bf16) (m : Fin 8)
    (x0 : Vec F S1024x1280 .i8) (x1 : Vec F S1024x20 .f32) (x2 : Vec F S1024x20 .i8) (d : S8192x2560.Idx → Elt F .bf16)
    (off : Fin 2 → ℕ) (hoff : off = ![1024 * m.val, 0]) (h : ∀ a, off a + S1024x2560.size a ≤ S8192x2560.size a) :
    v.readCov (actPieces m x0 x1 x2) (Rect.unit (s := S8192x2560) off S1024x2560.size h).toLoadRect
      = View.ld (actAfter m x0 x1 x2 d) (bandRect m) := by
  subst hoff
  exact readCov_act v m x0 x1 x2 d

/-- A load of the band of contents `d`, through an offset equal to the band's. -/
theorem ld_band_at (m : Fin 8) (d : S8192x2560.Idx → Elt F .bf16)
    (off : Fin 2 → ℕ) (hoff : off = ![1024 * m.val, 0]) (h : ∀ a, off a + S1024x2560.size a ≤ S8192x2560.size a) :
    View.ld d (Rect.unit (s := S8192x2560) off S1024x2560.size h) = View.ld d (bandRect m) := by
  subst hoff
  rfl

/-- The whole of the output block, stored once, reads as what was stored. -/
theorem read_writes_out {κ : Kind} {sp : Space} (v : View sig κ sp S1024x512 .bf16) (f : v.ty.Contents (Elt F))
    (h : ∀ a, (![0, 0] : Fin 2 → ℕ) a + S1024x512.size a ≤ S1024x512.size a) (y : S1024x512.Idx → Elt F .bf16) :
    v.read (Elt F) (v.writes (Elt F) f [⟨Rect.unit (s := S1024x512) ![0, 0] S1024x512.size h, y⟩]) = y := by
  have hid : ∀ x : S1024x512.Idx, (Rect.unit (s := S1024x512) ![0, 0] S1024x512.size h).emb x = x := fun x =>
    funext fun a => Fin.ext (by
      match a with
      | ⟨0, _⟩ => exact (Rect.idx_unit_val (s := S1024x512) _ _ _ x 0).trans (Nat.zero_add _)
      | ⟨1, _⟩ => exact (Rect.idx_unit_val (s := S1024x512) _ _ _ x 1).trans (Nat.zero_add _))
  funext j
  refine View.read_writes_apply_of_pieces v f y _ (fun p hp x => ?_) j ⟨_, List.mem_cons_self .., ?_⟩
  · obtain rfl := List.mem_singleton.mp hp
    exact (congrArg y (hid x)).symm
  · exact (Rect.mem_set_unit (inb := h)).mpr fun a => match a with
      | ⟨0, _⟩ => ⟨Nat.zero_le _, by have : (j 0).val < 1024 := (j 0).isLt; show (j 0).val < 0 + 1024; omega⟩
      | ⟨1, _⟩ => ⟨Nat.zero_le _, by have : (j 1).val < 512 := (j 1).isLt; show (j 1).val < 0 + 512; omega⟩

/-! ## The weights -/

/-- The row and column of an element of a weight tile. -/
theorem wRect_emb (k : ℕ) (hk : k + 64 ≤ 2560) (x : S64x512.Idx) :
    ((wRect k hk).emb x 0).val = k + (x 0).val ∧ (wRect k hk).emb x 1 = x 1 :=
  ⟨Rect.idx_unit_val (s := S2560x512) _ _ _ x 0,
    Fin.ext ((Rect.idx_unit_val (s := S2560x512) _ _ _ x 1).trans (Nat.zero_add _))⟩

/-- Which elements a weight tile has. -/
theorem mem_wRect (k : ℕ) (hk : k + 64 ≤ 2560) (y : S2560x512.Idx) :
    y ∈ (wRect k hk).set ↔ k ≤ (y 0).val ∧ (y 0).val < k + 64 := by
  have h1 : (y 1).val < 512 := (y 1).isLt
  unfold wRect
  rw [Rect.mem_set_unit]
  exact ⟨fun h => h 0, fun h a => match a with
    | ⟨0, _⟩ => h
    | ⟨1, _⟩ => ⟨Nat.zero_le _, by show (y 1).val < 0 + 512; omega⟩⟩

/-- Inside group `g` the low rows of the weights are the group's payload. -/
theorem wAll_lo (x3 : Vec F S1280x512 .i8) (x4 : Vec F S20x512 .f32) (g : Fin 20) (u : Fin 64) (y : S2560x512.Idx)
    (hy : (y 0).val = 64 * g.val + u.val) : wAll x3 x4 y = wLo g x4 (codeRows x3 g) (ix2 u (y 1)) := by
  have h1 : (y 0).val / 64 = g.val := by omega
  have h2 : (y 0).val % 64 = u.val := by omega
  unfold wAll
  rw [dif_pos (by omega)]
  simp only [h1, h2, Fin.eta]

/-- Inside group `g` the high rows of the weights are the group's payload. -/
theorem wAll_hi (x3 : Vec F S1280x512 .i8) (x4 : Vec F S20x512 .f32) (g : Fin 20) (u : Fin 64) (y : S2560x512.Idx)
    (hy : (y 0).val = 1280 + 64 * g.val + u.val) : wAll x3 x4 y = wHi g x4 (codeRows x3 g) (ix2 u (y 1)) := by
  have h1 : ((y 0).val - 1280) / 64 = g.val := by omega
  have h2 : ((y 0).val - 1280) % 64 = u.val := by omega
  unfold wAll
  rw [dif_neg (by omega)]
  simp only [h1, h2, Fin.eta]

/-- Membership in the list of weight stores. -/
theorem mem_wPieces (x3 : Vec F S1280x512 .i8) (x4 : Vec F S20x512 .f32) (p : View.Piece (Elt F) S2560x512 .bf16) :
    p ∈ wPieces x3 x4 ↔ ∃ g : Fin 20, p ∈ wPair x3 x4 g := by
  unfold wPieces
  simp only [List.mem_flatMap]
  constructor
  · rintro ⟨g, -, h⟩; exact ⟨g, h⟩
  · rintro ⟨g, h⟩; exact ⟨g, by fin_cases g <;> decide, h⟩

/-- Every weight store agrees with the dequantized weights. -/
theorem wPieces_agree (x3 : Vec F S1280x512 .i8) (x4 : Vec F S20x512 .f32) :
    ∀ p ∈ wPieces x3 x4, ∀ x : p.1.shape.Idx, p.2 x = wAll x3 x4 (p.1.emb x) := by
  intro p hp
  obtain ⟨g, hp⟩ := (mem_wPieces x3 x4 p).mp hp
  simp only [wPair, List.mem_cons, List.not_mem_nil, or_false] at hp
  rcases hp with rfl | rfl
  · intro (x : S64x512.Idx)
    obtain ⟨e0, e1⟩ := wRect_emb (1280 + 64 * g.val) (by omega) x
    show _ = wAll x3 x4 ((wRect (1280 + 64 * g.val) (by omega)).emb x)
    refine (Eq.trans (congrArg (wHi g x4 (codeRows x3 g)) (eq_ix2 x)) ?_).trans (wAll_hi x3 x4 g (x 0) _ e0).symm
    rw [e1]; rfl
  · intro (x : S64x512.Idx)
    obtain ⟨e0, e1⟩ := wRect_emb (64 * g.val) (by omega) x
    show _ = wAll x3 x4 ((wRect (64 * g.val) (by omega)).emb x)
    refine (Eq.trans (congrArg (wLo g x4 (codeRows x3 g)) (eq_ix2 x)) ?_).trans (wAll_lo x3 x4 g (x 0) _ e0).symm
    rw [e1]; rfl

/-- Some weight store covers each element. -/
theorem wPieces_cover (x3 : Vec F S1280x512 .i8) (x4 : Vec F S20x512 .f32) (y : S2560x512.Idx) :
    ∃ p ∈ wPieces x3 x4, y ∈ p.1.set := by
  have h0 : (y 0).val < 2560 := (y 0).isLt
  by_cases hk : (y 0).val < 1280
  · exact ⟨_, (mem_wPieces x3 x4 _).mpr ⟨⟨(y 0).val / 64, by omega⟩, List.mem_cons_of_mem _ (List.mem_cons_self ..)⟩,
      (mem_wRect (64 * ((y 0).val / 64)) (by omega) y).mpr (by omega)⟩
  · exact ⟨_, (mem_wPieces x3 x4 _).mpr ⟨⟨((y 0).val - 1280) / 64, by omega⟩, List.mem_cons_self ..⟩,
      (mem_wRect (1280 + 64 * (((y 0).val - 1280) / 64)) (by omega) y).mpr (by omega)⟩

/-- After the 40 stores the buffer reads as the dequantized weights. -/
theorem read_writes_w {κ : Kind} {sp : Space} (v : View sig κ sp S2560x512 .bf16) (f : v.ty.Contents (Elt F))
    (x3 : Vec F S1280x512 .i8) (x4 : Vec F S20x512 .f32) :
    v.read (Elt F) (v.writes (Elt F) f (wPieces x3 x4)) = wAll x3 x4 :=
  funext fun y => View.read_writes_apply_of_pieces v f _ _ (wPieces_agree x3 x4) y (wPieces_cover x3 x4 y)

/-- The whole of the weights, as a rectangle. -/
def wWhole : Rect S2560x512 :=
  Rect.unit (s := S2560x512) ![0, 0] S2560x512.size
    (fun a => by match a with | ⟨0, _⟩ => show 0 + 2560 ≤ 2560; omega | ⟨1, _⟩ => show 0 + 512 ≤ 512; omega)

/-- Reading through the whole rectangle is reading. -/
theorem ld_wWhole (d : S2560x512.Idx → Elt F .bf16) : View.ld d wWhole = d := by
  funext j
  refine congrArg d (funext fun a => Fin.ext ?_)
  match a with
  | ⟨0, _⟩ => exact (Rect.idx_unit_val (s := S2560x512) _ _ _ j 0).trans (Nat.zero_add _)
  | ⟨1, _⟩ => exact (Rect.idx_unit_val (s := S2560x512) _ _ _ j 1).trans (Nat.zero_add _)

/-- The whole block of weight scales, as a rectangle. -/
def sWhole : Rect S20x512 :=
  Rect.unit (s := S20x512) ![0, 0] S20x512.size
    (fun a => by match a with | ⟨0, _⟩ => show 0 + 20 ≤ 20; omega | ⟨1, _⟩ => show 0 + 512 ≤ 512; omega)

/-- Reading through the whole rectangle is reading. -/
theorem ld_sWhole (d : S20x512.Idx → Elt F .f32) : View.ld d sWhole = d := by
  funext j
  refine congrArg d (funext fun a => Fin.ext ?_)
  match a with
  | ⟨0, _⟩ => exact (Rect.idx_unit_val (s := S20x512) _ _ _ j 0).trans (Nat.zero_add _)
  | ⟨1, _⟩ => exact (Rect.idx_unit_val (s := S20x512) _ _ _ j 1).trans (Nat.zero_add _)

/-- A load of the weights after the stores reads the dequantized weights. -/
theorem readCov_w {κ : Kind} {sp : Space} (v : View sig κ sp S2560x512 .bf16) (x3 : Vec F S1280x512 .i8) (x4 : Vec F S20x512 .f32) :
    v.readCov (wPieces x3 x4) wWhole.toLoadRect = wAll x3 x4 := by
  refine Eq.trans ?_ (ld_wWhole (wAll x3 x4))
  rw [View.readCov_eq_canon']
  funext j
  exact View.canon_apply_of_pieces _ _ (wPieces_agree x3 x4) _ (wPieces_cover x3 x4 _)

end Cert.KernelIdeal.Gen

end
-- ==== Proof.RunA.lean ====
/- The body at the first point of all: both scratch buffers are filled, then their product is stored. -/
module

public import proofs.«01_k».proof.Proof.Points
public import proofs.«01_k».proof.Proof.Fill

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.closedPieces true in
set_option maxHeartbeats 5036000 in
/-- The body's triple in this case: the inputs are handed back as they were, the band of activations and the weights are filled,
    and the output block is the product of the band and the weights. -/
theorem kernelRun0_A (c : Dev nD) (i : grid0.Coords) (arg2 : Memref sig .tc .vmem S1024x1280 .i8) (harg2 : arg2.IsWhole) (arg3 : Memref sig .tc .vmem S1024x20 .f32) (harg3 : arg3.IsWhole) (arg4 : Memref sig .tc .vmem S1024x20 .i8) (harg4 : arg4.IsWhole) (arg5 : Memref sig .tc .vmem S1280x512 .i8) (harg5 : arg5.IsWhole) (arg6 : Memref sig .tc .vmem S20x512 .f32) (harg6 : arg6.IsWhole) (arg7 : Memref sig .tc .vmem S1024x512 .bf16) (harg7 : arg7.IsWhole) (arg8 : Memref sig .tc .vmem S8192x2560 .bf16) (harg8 : arg8.IsWhole) (arg9 : Memref sig .tc .vmem S2560x512 .bf16) (harg9 : arg9.IsWhole) (hc0 : cond0_0 i) (hc1 : cond0_1 i)
    (x0 : Vec F S1024x1280 .i8) (x1 : Vec F S1024x20 .f32) (x2 : Vec F S1024x20 .i8) (x3 : Vec F S1280x512 .i8) (x4 : Vec F S20x512 .f32) (d8 : Vec F S8192x2560 .bf16) (d9 : Vec F S2560x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d8 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 (View.ld (actAfter (i 1) x0 x1 x2 d8) (bandRect (i 1))) (wAll x3 x4)) ∗ owns (c : Thread nD τ) arg8 fullShare (actAfter (i 1) x0 x1 x2 d8) ∗ owns (c : Thread nD τ) arg9 fullShare (wAll x3 x4)) -∗ K ⟨⟩))
          ⊢ wp frame (wpE (defs₀ (F := F)) Variants.none c none) E (cc0_w4a4_linear i arg2 harg2 arg3 harg3 arg4 harg4 arg5 harg5 arg6 harg6 arg7 harg7 arg8 harg8 arg9 harg9) K := by
    intro E K
    simp only [cc0_w4a4_linear_eq_skeleton]; unfold cc0_w4a4_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part101_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    subst hs0 hs1
    have h0 := harg2.read_unread x0
    have h1 := harg3.read_unread x1
    have h2 := harg4.read_unread x2
    have e8 : arg8.view.read (Elt F) (arg8.view.writes (Elt F) fs0 (kernelRun0_A.sl.HS0_160 c i arg2 harg2 arg3 harg3 arg4 harg4 hc1 x0 x1 x2))
        = actAfter (i 1) x0 x1 x2 (arg8.view.read (Elt F) fs0) := by
      refine (read_writes_act arg8.view fs0 (i 1) (arg2.view.read (Elt F) (harg2.unread x0)) (arg3.view.read (Elt F) (harg3.unread x1)) (arg4.view.read (Elt F) (harg4.unread x2))).trans ?_
      rw [h0, h1, h2]
    have e7a : kernelRun0_A.sl.v9 c i arg2 harg2 arg3 harg3 arg4 harg4 arg8 hc1 x0 x1 x2
        = View.ld (actAfter (i 1) x0 x1 x2 (arg8.view.read (Elt F) fs0)) (bandRect (i 1)) := by
      refine (readCov_act_at arg8.view (i 1) (arg2.view.read (Elt F) (harg2.unread x0)) (arg3.view.read (Elt F) (harg3.unread x1)) (arg4.view.read (Elt F) (harg4.unread x2)) (arg8.view.read (Elt F) fs0) (k0_off21 i) (k0_off21_eq i) _).trans ?_
      rw [h0, h1, h2]
    have h3 := harg5.read_unread x3
    have h4 : View.ld (arg6.view.read (Elt F) (harg6.unread x4)) sWhole = x4 :=
      (congrArg (fun d => View.ld d sWhole) (harg6.read_unread x4)).trans (ld_sWhole x4)
    have e9 : arg9.view.read (Elt F) (arg9.view.writes (Elt F) fs1 (kernelRun0_A.sl.HS1_40 c arg5 harg5 arg6 harg6 x3 x4)) = wAll x3 x4 := by
      refine (read_writes_w arg9.view fs1 (arg5.view.read (Elt F) (harg5.unread x3)) (View.ld (arg6.view.read (Elt F) (harg6.unread x4)) sWhole)).trans ?_
      rw [h3, h4]
    have e7b : kernelRun0_A.sl.v10 c arg5 harg5 arg6 harg6 arg9 x3 x4 = wAll x3 x4 := by
      refine (readCov_w arg9.view (arg5.view.read (Elt F) (harg5.unread x3)) (View.ld (arg6.view.read (Elt F) (harg6.unread x4)) sWhole)).trans ?_
      rw [h3, h4]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      exact (read_writes_out arg7.view f5 _ _).trans (congrArg₂ k0_pay4 e7a e7b)
    isplitl [HS0]
    · iexists _; isplitr; swap; · iexact HS0
      ipureintro; exact e8
    iexists _; isplitr; swap; · iexact HS1
    ipureintro; exact e9

end Cert.KernelIdeal.Gen

end
-- ==== Proof.RunB.lean ====
/- The body at the other points of the first column: a band of activations is filled, then the product is stored. -/
module

public import proofs.«01_k».proof.Proof.Points
public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.closedPieces true in
set_option maxHeartbeats 5036000 in
/-- The body's triple in this case: the inputs are handed back as they were, the band of activations is filled, the weights are kept,
    and the output block is the product of the band and the weights. -/
theorem kernelRun0_B (c : Dev nD) (i : grid0.Coords) (arg2 : Memref sig .tc .vmem S1024x1280 .i8) (harg2 : arg2.IsWhole) (arg3 : Memref sig .tc .vmem S1024x20 .f32) (harg3 : arg3.IsWhole) (arg4 : Memref sig .tc .vmem S1024x20 .i8) (harg4 : arg4.IsWhole) (arg5 : Memref sig .tc .vmem S1280x512 .i8) (harg5 : arg5.IsWhole) (arg6 : Memref sig .tc .vmem S20x512 .f32) (harg6 : arg6.IsWhole) (arg7 : Memref sig .tc .vmem S1024x512 .bf16) (harg7 : arg7.IsWhole) (arg8 : Memref sig .tc .vmem S8192x2560 .bf16) (harg8 : arg8.IsWhole) (arg9 : Memref sig .tc .vmem S2560x512 .bf16) (harg9 : arg9.IsWhole) (hc0 : ¬cond0_0 i) (hc1 : cond0_1 i)
    (x0 : Vec F S1024x1280 .i8) (x1 : Vec F S1024x20 .f32) (x2 : Vec F S1024x20 .i8) (x3 : Vec F S1280x512 .i8) (x4 : Vec F S20x512 .f32) (d8 : Vec F S8192x2560 .bf16) (d9 : Vec F S2560x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d8 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 (View.ld (actAfter (i 1) x0 x1 x2 d8) (bandRect (i 1))) d9) ∗ owns (c : Thread nD τ) arg8 fullShare (actAfter (i 1) x0 x1 x2 d8) ∗ owns (c : Thread nD τ) arg9 fullShare d9) -∗ K ⟨⟩))
          ⊢ wp frame (wpE (defs₀ (F := F)) Variants.none c none) E (cc0_w4a4_linear i arg2 harg2 arg3 harg3 arg4 harg4 arg5 harg5 arg6 harg6 arg7 harg7 arg8 harg8 arg9 harg9) K := by
    intro E K
    simp only [cc0_w4a4_linear_eq_skeleton]; unfold cc0_w4a4_linear_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    subst hs0 hs1
    have h0 := harg2.read_unread x0
    have h1 := harg3.read_unread x1
    have h2 := harg4.read_unread x2
    have e8 : arg8.view.read (Elt F) (arg8.view.writes (Elt F) fs0 (kernelRun0_B.sl.HS0_160 c i arg2 harg2 arg3 harg3 arg4 harg4 hc1 x0 x1 x2))
        = actAfter (i 1) x0 x1 x2 (arg8.view.read (Elt F) fs0) := by
      refine (read_writes_act arg8.view fs0 (i 1) (arg2.view.read (Elt F) (harg2.unread x0)) (arg3.view.read (Elt F) (harg3.unread x1)) (arg4.view.read (Elt F) (harg4.unread x2))).trans ?_
      rw [h0, h1, h2]
    have e7a : kernelRun0_B.sl.v9 c i arg2 harg2 arg3 harg3 arg4 harg4 arg8 hc1 x0 x1 x2
        = View.ld (actAfter (i 1) x0 x1 x2 (arg8.view.read (Elt F) fs0)) (bandRect (i 1)) := by
      refine (readCov_act_at arg8.view (i 1) (arg2.view.read (Elt F) (harg2.unread x0)) (arg3.view.read (Elt F) (harg3.unread x1)) (arg4.view.read (Elt F) (harg4.unread x2)) (arg8.view.read (Elt F) fs0) (k0_off21 i) (k0_off21_eq i) _).trans ?_
      rw [h0, h1, h2]
    have e9 : arg9.view.read (Elt F) fs1 = arg9.view.read (Elt F) fs1 := rfl
    have e7b := ld_wWhole (arg9.view.read (Elt F) fs1)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      exact (read_writes_out arg7.view f5 _ _).trans (congrArg₂ k0_pay4 e7a e7b)
    isplitl [HS0]
    · iexists _; isplitr; swap; · iexact HS0
      ipureintro; exact e8
    iexists _; isplitr; swap; · iexact HS1
    ipureintro; exact e9

end Cert.KernelIdeal.Gen

end
-- ==== Proof.RunC.lean ====
/- The body at the first point of a later column: the weights are filled, then the product is stored. -/
module

public import proofs.«01_k».proof.Proof.Points
public import proofs.«01_k».proof.Proof.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.closedPieces true in
set_option maxHeartbeats 5036000 in
/-- The body's triple in this case: the inputs are handed back as they were, the weights are filled, the activations are kept,
    and the output block is the product of the band and the weights. -/
theorem kernelRun0_C (c : Dev nD) (i : grid0.Coords) (arg2 : Memref sig .tc .vmem S1024x1280 .i8) (harg2 : arg2.IsWhole) (arg3 : Memref sig .tc .vmem S1024x20 .f32) (harg3 : arg3.IsWhole) (arg4 : Memref sig .tc .vmem S1024x20 .i8) (harg4 : arg4.IsWhole) (arg5 : Memref sig .tc .vmem S1280x512 .i8) (harg5 : arg5.IsWhole) (arg6 : Memref sig .tc .vmem S20x512 .f32) (harg6 : arg6.IsWhole) (arg7 : Memref sig .tc .vmem S1024x512 .bf16) (harg7 : arg7.IsWhole) (arg8 : Memref sig .tc .vmem S8192x2560 .bf16) (harg8 : arg8.IsWhole) (arg9 : Memref sig .tc .vmem S2560x512 .bf16) (harg9 : arg9.IsWhole) (hc0 : cond0_0 i) (hc1 : ¬cond0_1 i)
    (x0 : Vec F S1024x1280 .i8) (x1 : Vec F S1024x20 .f32) (x2 : Vec F S1024x20 .i8) (x3 : Vec F S1280x512 .i8) (x4 : Vec F S20x512 .f32) (d8 : Vec F S8192x2560 .bf16) (d9 : Vec F S2560x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d8 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 (View.ld d8 (bandRect (i 1))) (wAll x3 x4)) ∗ owns (c : Thread nD τ) arg8 fullShare d8 ∗ owns (c : Thread nD τ) arg9 fullShare (wAll x3 x4)) -∗ K ⟨⟩))
          ⊢ wp frame (wpE (defs₀ (F := F)) Variants.none c none) E (cc0_w4a4_linear i arg2 harg2 arg3 harg3 arg4 harg4 arg5 harg5 arg6 harg6 arg7 harg7 arg8 harg8 arg9 harg9) K := by
    intro E K
    simp only [cc0_w4a4_linear_eq_skeleton]; unfold cc0_w4a4_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    subst hs0 hs1
    have e8 : arg8.view.read (Elt F) fs0 = arg8.view.read (Elt F) fs0 := rfl
    have hb : ∀ a, k0_off21 i a + S1024x2560.size a ≤ S8192x2560.size a := by
      rw [k0_off21_eq]; exact band_inb (i 1)
    have e7a := ld_band_at (i 1) (arg8.view.read (Elt F) fs0) (k0_off21 i) (k0_off21_eq i) hb
    have h3 := harg5.read_unread x3
    have h4 : View.ld (arg6.view.read (Elt F) (harg6.unread x4)) sWhole = x4 :=
      (congrArg (fun d => View.ld d sWhole) (harg6.read_unread x4)).trans (ld_sWhole x4)
    have e9 : arg9.view.read (Elt F) (arg9.view.writes (Elt F) fs1 (kernelRun0_C.sl.HS1_40 c arg5 harg5 arg6 harg6 x3 x4)) = wAll x3 x4 := by
      refine (read_writes_w arg9.view fs1 (arg5.view.read (Elt F) (harg5.unread x3)) (View.ld (arg6.view.read (Elt F) (harg6.unread x4)) sWhole)).trans ?_
      rw [h3, h4]
    have e7b : kernelRun0_C.sl.v10 c arg5 harg5 arg6 harg6 arg9 x3 x4 = wAll x3 x4 := by
      refine (readCov_w arg9.view (arg5.view.read (Elt F) (harg5.unread x3)) (View.ld (arg6.view.read (Elt F) (harg6.unread x4)) sWhole)).trans ?_
      rw [h3, h4]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      exact (read_writes_out arg7.view f5 _ _).trans (congrArg₂ k0_pay4 e7a e7b)
    isplitl [HS0]
    · iexists _; isplitr; swap; · iexact HS0
      ipureintro; exact e8
    iexists _; isplitr; swap; · iexact HS1
    ipureintro; exact e9

end Cert.KernelIdeal.Gen

end
-- ==== Proof.RunD.lean ====
/- The body at the remaining points: the product of what the scratch buffers hold is stored. -/
module

public import proofs.«01_k».proof.Proof.Points
public import proofs.«01_k».proof.Proof.RunC

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.closedPieces true in
set_option maxHeartbeats 5036000 in
/-- The body's triple in this case: the inputs are handed back as they were, both scratch buffers are kept,
    and the output block is the product of the band and the weights. -/
theorem kernelRun0_D (c : Dev nD) (i : grid0.Coords) (arg2 : Memref sig .tc .vmem S1024x1280 .i8) (harg2 : arg2.IsWhole) (arg3 : Memref sig .tc .vmem S1024x20 .f32) (harg3 : arg3.IsWhole) (arg4 : Memref sig .tc .vmem S1024x20 .i8) (harg4 : arg4.IsWhole) (arg5 : Memref sig .tc .vmem S1280x512 .i8) (harg5 : arg5.IsWhole) (arg6 : Memref sig .tc .vmem S20x512 .f32) (harg6 : arg6.IsWhole) (arg7 : Memref sig .tc .vmem S1024x512 .bf16) (harg7 : arg7.IsWhole) (arg8 : Memref sig .tc .vmem S8192x2560 .bf16) (harg8 : arg8.IsWhole) (arg9 : Memref sig .tc .vmem S2560x512 .bf16) (harg9 : arg9.IsWhole) (hc0 : ¬cond0_0 i) (hc1 : ¬cond0_1 i)
    (x0 : Vec F S1024x1280 .i8) (x1 : Vec F S1024x20 .f32) (x2 : Vec F S1024x20 .i8) (x3 : Vec F S1280x512 .i8) (x4 : Vec F S20x512 .f32) (d8 : Vec F S8192x2560 .bf16) (d9 : Vec F S2560x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d8 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 (View.ld d8 (bandRect (i 1))) d9) ∗ owns (c : Thread nD τ) arg8 fullShare d8 ∗ owns (c : Thread nD τ) arg9 fullShare d9) -∗ K ⟨⟩))
          ⊢ wp frame (wpE (defs₀ (F := F)) Variants.none c none) E (cc0_w4a4_linear i arg2 harg2 arg3 harg3 arg4 harg4 arg5 harg5 arg6 harg6 arg7 harg7 arg8 harg8 arg9 harg9) K := by
    intro E K
    simp only [cc0_w4a4_linear_eq_skeleton]; unfold cc0_w4a4_linear_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    subst hs0 hs1
    have e8 : arg8.view.read (Elt F) fs0 = arg8.view.read (Elt F) fs0 := rfl
    have hb : ∀ a, k0_off21 i a + S1024x2560.size a ≤ S8192x2560.size a := by
      rw [k0_off21_eq]; exact band_inb (i 1)
    have e7a := ld_band_at (i 1) (arg8.view.read (Elt F) fs0) (k0_off21 i) (k0_off21_eq i) hb
    have e9 : arg9.view.read (Elt F) fs1 = arg9.view.read (Elt F) fs1 := rfl
    have e7b := ld_wWhole (arg9.view.read (Elt F) fs1)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      exact (read_writes_out arg7.view f5 _ _).trans (congrArg₂ k0_pay4 e7a e7b)
    isplitl [HS0]
    · iexists _; isplitr; swap; · iexact HS0
      ipureintro; exact e8
    iexists _; isplitr; swap; · iexact HS1
    ipureintro; exact e9

end Cert.KernelIdeal.Gen

end
-- ==== Proof.Windows.lean ====
/- The pipeline's blocks at a point, element by element: which element of its array each window's block holds. -/
module

public import proofs.«01_k».proof.Proof.Points
public import Idealize.ShloMosaic.Lib.Pipeline.Value
public import Idealize.ShloMosaic.Lib.Pipeline.ValueKit.Tiles
public import Idealize.ShloMosaic.Lib.ValueIdxCore

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx (ix2 eq_ix2)

variable {F : FTy → Type} [FloatOps F]
variable (m : (ℓ : Loc nD τ sig) → Buf (Elt F) ℓ)

/-- The grid's coordinates of point `t`: column block `t / 8`, row block `t % 8`. -/
theorem coords_eq (t : Fin cfg0.N) : (grid0.coords t 0).val = t.val / 8 ∧ (grid0.coords t 1).val = t.val % 8 := by
  have ht : t.val < 160 := Nat.lt_of_lt_of_eq t.isLt N_0
  have e0 : (grid0.coords t 0).val = t.val / 8 % 20 := Pipeline.Grid.coords_val t 0 (by decide) rfl
  have e1 : (grid0.coords t 1).val = t.val / 1 % 8 := Pipeline.Grid.coords_val t 1 (by decide) rfl
  omega

/-- Where each window's block is, in blocks: the activations' at the first eight points, the weights' and the output's at
    every point. -/
theorem index_act (t : Fin cfg0.N) (h : t.val < 8) : cc0_transform_0 (grid0.coords t) = ![t.val, 0]
    ∧ cc0_transform_1 (grid0.coords t) = ![t.val, 0] ∧ cc0_transform_2 (grid0.coords t) = ![t.val, 0] :=
  (by decide +kernel : ∀ t : Fin grid0.N, t.val < 8 → cc0_transform_0 (grid0.coords t) = ![t.val, 0]
    ∧ cc0_transform_1 (grid0.coords t) = ![t.val, 0] ∧ cc0_transform_2 (grid0.coords t) = ![t.val, 0]) t h
theorem index_w (t : Fin cfg0.N) : cc0_transform_3 (grid0.coords t) = ![0, t.val / 8]
    ∧ cc0_transform_4 (grid0.coords t) = ![0, t.val / 8] ∧ cc0_transform_5 (grid0.coords t) = ![t.val % 8, t.val / 8] :=
  (by decide +kernel : ∀ t : Fin grid0.N, cc0_transform_3 (grid0.coords t) = ![0, t.val / 8]
    ∧ cc0_transform_4 (grid0.coords t) = ![0, t.val / 8] ∧ cc0_transform_5 (grid0.coords t) = ![t.val % 8, t.val / 8]) t

/-- The codes' block at one of the first eight points: a band of 1024 rows. -/
theorem iblk_0 (c : Dev nD) (t : Fin cfg0.N) (ht : t.val < 8) (j : S1024x1280.Idx) (h : 1024 * t.val + (j 0).val < 8192) :
    iblk m c 0 t j = V m c main_v0 (ix2 (⟨1024 * t.val + (j 0).val, h⟩ : Fin 8192) (j 1)) := by
  show V m c main_v0 ((Rect.block (s := S8192x1280) S1024x1280.size (cc0_transform_0 (grid0.coords t)) (hinb0_0 (grid0.coords t))).idx j) = _
  refine congrArg (V m c main_v0) (funext fun a => Fin.ext ?_)
  have e : cc0_transform_0 (grid0.coords t) = ![t.val, 0] := (index_act t ht).1
  match a with
  | ⟨0, _⟩ =>
    show cc0_transform_0 (grid0.coords t) 0 * S1024x1280.size 0 + 1 * (j 0).val = _
    rw [e]
    show t.val * 1024 + 1 * (j 0).val = _
    show _ = 1024 * t.val + (j 0).val; omega
  | ⟨1, _⟩ =>
    show cc0_transform_0 (grid0.coords t) 1 * S1024x1280.size 1 + 1 * (j 1).val = _
    rw [e]
    show 0 * 1280 + 1 * (j 1).val = _
    show _ = (j 1).val; omega

/-- The scales' block there. -/
theorem iblk_1 (c : Dev nD) (t : Fin cfg0.N) (ht : t.val < 8) (j : S1024x20.Idx) (h : 1024 * t.val + (j 0).val < 8192) :
    iblk m c 1 t j = V m c main_v1 (ix2 (⟨1024 * t.val + (j 0).val, h⟩ : Fin 8192) (j 1)) := by
  show V m c main_v1 ((Rect.block (s := S8192x20) S1024x20.size (cc0_transform_1 (grid0.coords t)) (hinb0_1 (grid0.coords t))).idx j) = _
  refine congrArg (V m c main_v1) (funext fun a => Fin.ext ?_)
  have e : cc0_transform_1 (grid0.coords t) = ![t.val, 0] := (index_act t ht).2.1
  match a with
  | ⟨0, _⟩ =>
    show cc0_transform_1 (grid0.coords t) 0 * S1024x20.size 0 + 1 * (j 0).val = _
    rw [e]
    show t.val * 1024 + 1 * (j 0).val = _
    show _ = 1024 * t.val + (j 0).val; omega
  | ⟨1, _⟩ =>
    show cc0_transform_1 (grid0.coords t) 1 * S1024x20.size 1 + 1 * (j 1).val = _
    rw [e]
    show 0 * 20 + 1 * (j 1).val = _
    show _ = (j 1).val; omega

/-- The zero points' block there. -/
theorem iblk_2 (c : Dev nD) (t : Fin cfg0.N) (ht : t.val < 8) (j : S1024x20.Idx) (h : 1024 * t.val + (j 0).val < 8192) :
    iblk m c 2 t j = V m c main_v2 (ix2 (⟨1024 * t.val + (j 0).val, h⟩ : Fin 8192) (j 1)) := by
  show V m c main_v2 ((Rect.block (s := S8192x20) S1024x20.size (cc0_transform_2 (grid0.coords t)) (hinb0_2 (grid0.coords t))).idx j) = _
  refine congrArg (V m c main_v2) (funext fun a => Fin.ext ?_)
  have e : cc0_transform_2 (grid0.coords t) = ![t.val, 0] := (index_act t ht).2.2
  match a with
  | ⟨0, _⟩ =>
    show cc0_transform_2 (grid0.coords t) 0 * S1024x20.size 0 + 1 * (j 0).val = _
    rw [e]
    show t.val * 1024 + 1 * (j 0).val = _
    show _ = 1024 * t.val + (j 0).val; omega
  | ⟨1, _⟩ =>
    show cc0_transform_2 (grid0.coords t) 1 * S1024x20.size 1 + 1 * (j 1).val = _
    rw [e]
    show 0 * 20 + 1 * (j 1).val = _
    show _ = (j 1).val; omega

/-- The packed weights at a point: all rows of a block of 512 columns. -/
theorem iblk_3 (c : Dev nD) (t : Fin cfg0.N) (j : S1280x512.Idx) (h : 512 * (t.val / 8) + (j 1).val < 10240) :
    iblk m c 3 t j = V m c main_arg3 (ix2 (j 0) (⟨512 * (t.val / 8) + (j 1).val, h⟩ : Fin 10240)) := by
  show V m c main_arg3 ((Rect.block (s := S1280x10240) S1280x512.size (cc0_transform_3 (grid0.coords t)) (hinb0_3 (grid0.coords t))).idx j) = _
  refine congrArg (V m c main_arg3) (funext fun a => Fin.ext ?_)
  have e : cc0_transform_3 (grid0.coords t) = ![0, t.val / 8] := (index_w t).1
  match a with
  | ⟨0, _⟩ =>
    show cc0_transform_3 (grid0.coords t) 0 * S1280x512.size 0 + 1 * (j 0).val = _
    rw [e]
    show 0 * 1280 + 1 * (j 0).val = _
    show _ = (j 0).val; omega
  | ⟨1, _⟩ =>
    show cc0_transform_3 (grid0.coords t) 1 * S1280x512.size 1 + 1 * (j 1).val = _
    rw [e]
    show t.val / 8 * 512 + 1 * (j 1).val = _
    show _ = 512 * (t.val / 8) + (j 1).val; omega

/-- The weights' scales there. -/
theorem iblk_4 (c : Dev nD) (t : Fin cfg0.N) (j : S20x512.Idx) (h : 512 * (t.val / 8) + (j 1).val < 10240) :
    iblk m c 4 t j = V m c main_arg4 (ix2 (j 0) (⟨512 * (t.val / 8) + (j 1).val, h⟩ : Fin 10240)) := by
  show V m c main_arg4 ((Rect.block (s := S20x10240) S20x512.size (cc0_transform_4 (grid0.coords t)) (hinb0_4 (grid0.coords t))).idx j) = _
  refine congrArg (V m c main_arg4) (funext fun a => Fin.ext ?_)
  have e : cc0_transform_4 (grid0.coords t) = ![0, t.val / 8] := (index_w t).2.1
  match a with
  | ⟨0, _⟩ =>
    show cc0_transform_4 (grid0.coords t) 0 * S20x512.size 0 + 1 * (j 0).val = _
    rw [e]
    show 0 * 20 + 1 * (j 0).val = _
    show _ = (j 0).val; omega
  | ⟨1, _⟩ =>
    show cc0_transform_4 (grid0.coords t) 1 * S20x512.size 1 + 1 * (j 1).val = _
    rw [e]
    show t.val / 8 * 512 + 1 * (j 1).val = _
    show _ = 512 * (t.val / 8) + (j 1).val; omega

end Cert.KernelIdeal.Gen

end
-- ==== Proof.Invariant.lean ====
/- The pipeline's proof data and its run. Between points the activations hold the dequantized rows of the row blocks met so far
   (all of them from the second column on), the weights those of the last point's column block; each point leaves the product. -/
module

public import proofs.«01_k».proof.Proof.RunD
public import proofs.«01_k».proof.Proof.Windows

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2 eq_ix2)

variable (m : (ℓ : Loc nD τ sig) → Buf (Elt F) ℓ) (ρ : Dev nD → PrngReg)

/-! ## What the scratch buffers hold -/

/-- The point at which row block `r` is dequantized. -/
def pt (r : Fin 8) : Fin cfg0.N := ⟨r.val, by rw [show cfg0.N = 160 from N_0]; omega⟩

/-- The whole of the dequantized activations. -/
def actAll (c : Dev nD) : S8192x2560.Idx → Elt F .bf16 := fun y =>
  have h : (y 0).val < 8192 := (y 0).isLt
  actBand (iblk m c 0 (pt ⟨(y 0).val / 1024, by omega⟩)) (iblk m c 1 (pt ⟨(y 0).val / 1024, by omega⟩))
    (iblk m c 2 (pt ⟨(y 0).val / 1024, by omega⟩)) ⟨(y 0).val % 1024, by omega⟩ (y 1)

/-- The dequantized weights at point `t`. -/
def wAt (c : Dev nD) (t : Fin cfg0.N) : S2560x512.Idx → Elt F .bf16 := wAll (iblk m c 3 t) (iblk m c 4 t)

/-- The output block of point `t`. -/
def outAt (c : Dev nD) (t : Fin cfg0.N) : FVec F S1024x512 .bf16 :=
  k0_pay4 (View.ld (actAll m c) (bandRect (grid0.coords t 1))) (wAt m c t)

/-- In the band filled at one of the first eight points the activations are the dequantized ones, whatever was there. -/
theorem act_band (c : Dev nD) (t : Fin cfg0.N) (h1 : t.val < 8) (d : S8192x2560.Idx → Elt F .bf16) (y : S8192x2560.Idx)
    (hy : 1024 * t.val ≤ (y 0).val ∧ (y 0).val < 1024 * t.val + 1024) :
    actAfter (grid0.coords t 1) (iblk m c 0 t) (iblk m c 1 t) (iblk m c 2 t) d y = actAll m c y := by
  have e1 : (grid0.coords t 1).val = t.val := (coords_eq t).2.trans (Nat.mod_eq_of_lt h1)
  have h : (y 0).val < 8192 := (y 0).isLt
  have ep : pt ⟨(y 0).val / 1024, by omega⟩ = t := Fin.ext (by show (y 0).val / 1024 = t.val; omega)
  have er : (⟨(y 0).val - 1024 * (grid0.coords t 1).val, by omega⟩ : Fin 1024) = ⟨(y 0).val % 1024, by omega⟩ :=
    Fin.ext (by show (y 0).val - 1024 * (grid0.coords t 1).val = (y 0).val % 1024; omega)
  unfold actAfter
  rw [dif_pos (by rw [e1]; exact hy)]
  unfold actAll
  dsimp only
  rw [ep]
  exact congrArg (fun r => actBand (iblk m c 0 t) (iblk m c 1 t) (iblk m c 2 t) r (y 1)) er

/-- After one of the first eight points the rows up to its band are the dequantized ones. -/
theorem act_filled (c : Dev nD) (t : Fin cfg0.N) (h1 : t.val < 8) (d : S8192x2560.Idx → Elt F .bf16)
    (h8 : ∀ y : S8192x2560.Idx, (y 0).val < 1024 * t.val → d y = actAll m c y) (y : S8192x2560.Idx)
    (hy : (y 0).val < 1024 * (t.val + 1)) :
    actAfter (grid0.coords t 1) (iblk m c 0 t) (iblk m c 1 t) (iblk m c 2 t) d y = actAll m c y := by
  have e1 : (grid0.coords t 1).val = t.val := (coords_eq t).2.trans (Nat.mod_eq_of_lt h1)
  by_cases hb : 1024 * t.val ≤ (y 0).val
  · exact act_band m c t h1 d y ⟨hb, by omega⟩
  · unfold actAfter
    rw [dif_neg (by rw [e1]; omega)]
    exact h8 y (by omega)

/-- From the second column on every row is dequantized already. -/
theorem act_whole (c : Dev nD) (t : Fin cfg0.N) (h1 : ¬ t.val < 8) (d : S8192x2560.Idx → Elt F .bf16)
    (h8 : ∀ y : S8192x2560.Idx, (y 0).val < 1024 * t.val → d y = actAll m c y) : d = actAll m c :=
  funext fun y => h8 y (by have h : (y 0).val < 8192 := (y 0).isLt; omega)

theorem act_kept (c : Dev nD) (t : Fin cfg0.N) (h1 : ¬ t.val < 8) (d : S8192x2560.Idx → Elt F .bf16)
    (h8 : ∀ y : S8192x2560.Idx, (y 0).val < 1024 * t.val → d y = actAll m c y) (y : S8192x2560.Idx)
    (_ : (y 0).val < 1024 * (t.val + 1)) : d y = actAll m c y :=
  congrFun (act_whole m c t h1 d h8) y

/-- The weights just filled are those of this point. -/
theorem w_filled (c : Dev nD) (t t' : Fin cfg0.N) (h : t'.val + 1 = t.val + 1) :
    wAll (iblk m c 3 t) (iblk m c 4 t) = wAt m c t' := by
  rw [show t' = t from Fin.ext (by omega)]; rfl

/-- Two points of one column block have the same weights. -/
theorem wAt_congr (c : Dev nD) (t t' : Fin cfg0.N) (h : t.val / 8 = t'.val / 8) : wAt m c t = wAt m c t' := by
  have ht : t.val < 160 := Nat.lt_of_lt_of_eq t.isLt N_0
  have e3 : iblk m c 3 t = iblk m c 3 t' := funext fun (j : S1280x512.Idx) => by
    have hj : (j 1).val < 512 := (j 1).isLt
    rw [iblk_3 m c t j (by omega), iblk_3 m c t' j (by omega)]; simp only [h]
  have e4 : iblk m c 4 t = iblk m c 4 t' := funext fun (j : S20x512.Idx) => by
    have hj : (j 1).val < 512 := (j 1).isLt
    rw [iblk_4 m c t j (by omega), iblk_4 m c t' j (by omega)]; simp only [h]
  unfold wAt
  rw [e3, e4]

/-- Where the weights are not filled they are the point before's, which are this point's. -/
theorem w_kept (c : Dev nD) (t : Fin cfg0.N) (h0 : ¬ t.val % 8 = 0) (d : S2560x512.Idx → Elt F .bf16)
    (h9 : ∀ t' : Fin cfg0.N, t'.val + 1 = t.val → d = wAt m c t') : d = wAt m c t :=
  (h9 ⟨t.val - 1, by have := t.isLt; omega⟩ (by show t.val - 1 + 1 = t.val; omega)).trans
    (wAt_congr m c _ t (by show (t.val - 1) / 8 = t.val / 8; omega))

theorem w_next (c : Dev nD) (t : Fin cfg0.N) (h0 : ¬ t.val % 8 = 0) (d : S2560x512.Idx → Elt F .bf16)
    (h9 : ∀ t' : Fin cfg0.N, t'.val + 1 = t.val → d = wAt m c t') (t' : Fin cfg0.N) (h : t'.val + 1 = t.val + 1) :
    d = wAt m c t' := by
  rw [show t' = t from Fin.ext (by omega)]; exact w_kept m c t h0 d h9

/-- The output block, from the band just filled. -/
theorem out_fill (c : Dev nD) (t : Fin cfg0.N) (h1 : t.val < 8) (d : S8192x2560.Idx → Elt F .bf16) (w : S2560x512.Idx → Elt F .bf16)
    (hw : w = wAt m c t) :
    k0_pay4 (View.ld (actAfter (grid0.coords t 1) (iblk m c 0 t) (iblk m c 1 t) (iblk m c 2 t) d) (bandRect (grid0.coords t 1))) w
      = outAt m c t := by
  have e1 : (grid0.coords t 1).val = t.val := (coords_eq t).2.trans (Nat.mod_eq_of_lt h1)
  subst hw
  unfold outAt
  refine congrArg (fun v => k0_pay4 v (wAt m c t)) (funext fun j => act_band m c t h1 d _ ?_)
  have e0 : (((bandRect (grid0.coords t 1)).idx j) 0).val = 1024 * (grid0.coords t 1).val + (j 0).val :=
    Rect.idx_unit_val (s := S8192x2560) _ _ _ j 0
  have hj : (j 0).val < 1024 := (j 0).isLt
  rw [e1] at e0
  exact ⟨by show _ ≤ (((bandRect (grid0.coords t 1)).idx j) 0).val; omega,
    by show (((bandRect (grid0.coords t 1)).idx j) 0).val < _; omega⟩

/-- The output block, from activations kept. -/
theorem out_keep (c : Dev nD) (t : Fin cfg0.N) (h1 : ¬ t.val < 8) (d : S8192x2560.Idx → Elt F .bf16) (w : S2560x512.Idx → Elt F .bf16)
    (h8 : ∀ y : S8192x2560.Idx, (y 0).val < 1024 * t.val → d y = actAll m c y) (hw : w = wAt m c t) :
    k0_pay4 (View.ld d (bandRect (grid0.coords t 1))) w = outAt m c t := by
  rw [act_whole m c t h1 d h8, hw]; rfl

/-! ## The proof data -/

/-- What holds between points: the rows dequantized so far, the last point's weights, the generator register. -/
def between (c : Dev nD) (p : ℕ) : sProp 𝕄 :=
  iprop((∃ d : Vec F S8192x2560 .bf16, ⌜∀ y : S8192x2560.Idx, (y 0).val < 1024 * p → d y = actAll m c y⌝
        ∗ owns (c : Thread nD τ) scM0_0 fullShare d)
    ∗ (∃ d : Vec F S2560x512 .bf16, ⌜∀ t : Fin cfg0.N, t.val + 1 = p → d = wAt m c t⌝
        ∗ owns (c : Thread nD τ) scM0_1 fullShare d)
    ∗ (∃ r, prngReg c r))

/-- The proof data of the one pipeline on core `c`: the arrays as the region finds them, each input's buffer left at its
    block, the output's at the point's product, `between` from point to point, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ p := between m c p.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 3200000 in
/-- The body at any point: the inputs' memrefs hold their blocks, the point's residues say which case it is in, that case's run
    applies, and what it leaves is what `between` says of the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.castSucc = between m c t.val from rfl, show (dats m 0 c).Φ t.succ = between m c (t.val + 1) from rfl]
  unfold between
  by_cases h0 : t.val % 8 = 0
  · by_cases h1 : t.val < 8
    · iintro ⟨⟨⟨%d8, %h8, HS0⟩, ⟨%d9, %h9, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) ((hcond0_1 t).mpr h1) (iblk m c 0 t) (iblk m c 1 t) (iblk m c 2 t) (iblk m c 3 t) (iblk m c 4 t) d8 d9) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0]
        · iexists _; isplitr; swap; · iexact HS0
          ipureintro; exact (act_filled m c t h1 d8 h8)
        isplitl [HS1]
        · iexists _; isplitr; swap; · iexact HS1
          ipureintro; exact (w_filled m c t)
        iexact Hg
      isplitl [Ho]; · iexact Ho
      isplitl [H0]; · iexact H0
      isplitl [H1]; · iexact H1
      isplitl [H2]; · iexact H2
      isplitl [H3]; · iexact H3
      isplitl [H4]; · iexact H4
      rw [← out_fill m c t h1 d8 _ rfl]
      iexact H5
    · iintro ⟨⟨⟨%d8, %h8, HS0⟩, ⟨%d9, %h9, HS1⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) d8 d9) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0]
        · iexists _; isplitr; swap; · iexact HS0
          ipureintro; exact (act_kept m c t h1 d8 h8)
        isplitl [HS1]
        · iexists _; isplitr; swap; · iexact HS1
          ipureintro; exact (w_filled m c t)
        iexact Hg
      isplitl [Ho]; · iexact Ho
      isplitl [H0]; · iexact H0
      isplitl [H1]; · iexact H1
      isplitl [H2]; · iexact H2
      isplitl [H3]; · iexact H3
      isplitl [H4]; · iexact H4
      rw [← out_keep m c t h1 d8 _ h8 rfl]
      iexact H5
  · by_cases h1 : t.val < 8
    · iintro ⟨⟨⟨%d8, %h8, HS0⟩, ⟨%d9, %h9, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) d8 d9) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0]
        · iexists _; isplitr; swap; · iexact HS0
          ipureintro; exact (act_filled m c t h1 d8 h8)
        isplitl [HS1]
        · iexists _; isplitr; swap; · iexact HS1
          ipureintro; exact (w_next m c t h0 d9 h9)
        iexact Hg
      isplitl [Ho]; · iexact Ho
      isplitl [H0]; · iexact H0
      isplitl [H1]; · iexact H1
      isplitl [H2]; · iexact H2
      isplitl [H3]; · iexact H3
      isplitl [H4]; · iexact H4
      rw [← out_fill m c t h1 d8 d9 (w_kept m c t h0 d9 h9)]
      iexact H5
    · iintro ⟨⟨⟨%d8, %h8, HS0⟩, ⟨%d9, %h9, HS1⟩, Hg⟩, Ho, ⟨%d0, H0⟩, ⟨%d1, H1⟩, ⟨%d2, H2⟩, ⟨%d3, H3⟩, ⟨%d4, H4⟩, ⟨%d5, H5⟩⟩
      iapply ((kernelRun0_D c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) d8 d9) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0]
        · iexists _; isplitr; swap; · iexact HS0
          ipureintro; exact (act_kept m c t h1 d8 h8)
        isplitl [HS1]
        · iexists _; isplitr; swap; · iexact HS1
          ipureintro; exact (w_next m c t h0 d9 h9)
        iexact Hg
      isplitl [Ho]; · iexact Ho
      isplitl [H0]; · iexact H0
      isplitl [H1]; · iexact H1
      isplitl [H2]; · iexact H2
      isplitl [H3]; · iexact H3
      isplitl [H4]; · iexact H4
      rw [← out_keep m c t h1 d8 d9 h8 (w_kept m c t h0 d9 h9)]
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the region is entered with gives what holds before the first point, -/
theorem between_start (c : Dev nD) : Pipeline.ΦA spec0 c ⊢ (dats m 0 c).Φ 0 := by
  rw [show (dats m 0 c).Φ 0 = between m c 0 from rfl, PhiA0_eq]
  unfold between
  iintro ⟨⟨⟨%d8, HS0⟩, ⟨%d9, HS1⟩⟩, Hg⟩
  isplitl [HS0]
  · iexists _; isplitr; swap; · iexact HS0
    ipureintro; exact fun y hy => absurd hy (by omega)
  isplitl [HS1]
  · iexists _; isplitr; swap; · iexact HS1
    ipureintro; exact fun t ht => absurd ht (by omega)
  iexact Hg

/-- and what holds after the last gives what the region hands back. -/
theorem between_end (c : Dev nD) : (dats m 0 c).Φ (Fin.last cfg0.N) ⊢ Pipeline.ΦA spec0 c := by
  rw [show (dats m 0 c).Φ (Fin.last cfg0.N) = between m c cfg0.N from rfl, PhiA0_eq]
  unfold between
  iintro ⟨⟨%d8, -, HS0⟩, ⟨%d9, -, HS1⟩, Hg⟩
  isplitl [HS0 HS1]
  · isplitl [HS0]
    · iexists _; iexact HS0
    iexists _; iexact HS1
  iexact Hg

set_option backward.isDefEq.respectTransparency.types false in
set_option maxHeartbeats 800000 in
/-- The run: every weakly fair execution terminates, the pipeline's arrays end at what the proof data says, every other buffer
    at what the host lines after the region leave, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := between_start m) (hout := between_end m)

/-- The same run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Frames.lean ====
/- The three frame claims: each program terminates, leaves its arguments as they were and every semaphore counter at zero. -/
module

public import proofs.«01_k».proof.Defs
public import proofs.«01_k».proof.Proof.Gen.Kernel
public import proofs.«01_k».proof.Proof.Gen.ReferenceIdeal.Run
public import proofs.«01_k».proof.Proof.Invariant
public import Idealize.ShloMosaic.Lib.Quiescent

@[expose] public section

noncomputable section

namespace Cert.Proof

open Idealize.ShloMosaic Idealize.SL.Sem

set_option maxRecDepth 16384 in
set_option maxHeartbeats 1000000 in
set_option smartUnfolding false in
/-- The kernel's frame. The kernel and its idealization are printed as the same program (the ideal pass rewrites nothing), and
    the idealized kernel's frame is proved for every interpretation of the floats: this is that proof at the bit-exact one. -/
theorem frame_p : Cert.quiescent_Kernel (hKernel := Cert.Kernel.Gen.facts) := fun m ρ _ =>
  Cert.KernelIdeal.Gen.frame (F := Bits) m ρ

/-- The idealized kernel's frame. -/
theorem frame_pi : Cert.quiescent_KernelIdeal (hKernelIdeal := Cert.KernelIdeal.Gen.facts) :=
  fun m ρ _ => Cert.KernelIdeal.Gen.frame m ρ

/-- The reference's frame: its run read at the arguments; it declares no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Result.lean ====
/- The run's result: the output array is the blocks the points leave, and the host's last reshape gives the result its shape;
   and what the arrays hold as the kernel finds them: the arguments, the first three reshaped. -/
module

public import proofs.«01_k».proof.Proof.Invariant

@[expose] public section

set_option maxRecDepth 16384

noncomputable section

namespace Cert.KernelIdeal.Gen

open Idealize.ShloMosaic Idealize.ShloMosaic.TcCoe Idealize.ShloMosaic.Tactic Idealize.SL.Sem
open Idealize.ShloMosaic.StableHlo
open Idealize.ShloMosaic.Pipeline (Dat)
open Idealize.ShloMosaic.ValueIdx (ix2 eq_ix2)

variable {F : FTy → Type} [FloatOps F]
variable (m : (ℓ : Loc nD τ sig) → Buf (Elt F) ℓ) (ρ : Dev nD → PrngReg)

/-- The point that writes the output at row `r` and column `k`. -/
def ptOut (r : Fin 8192) (k : Fin 10240) : Fin cfg0.N :=
  ⟨8 * (k.val / 512) + r.val / 1024, by rw [show cfg0.N = 160 from N_0]; omega⟩

/-- The output at row `r` and column `k`: its block's entry. -/
def outEntry (c : Dev nD) (r : Fin 8192) (k : Fin 10240) : Elt F .bf16 :=
  outAt m c (ptOut r k) (ix2 (⟨r.val % 1024, by omega⟩ : Fin 1024) (⟨k.val % 512, by omega⟩ : Fin 512))

/-- The whole output array. -/
def outAll (c : Dev nD) : Vec F S8192x10240 .bf16 := fun y => outEntry m c (y 0) (y 1)

/-- What a point writes back is its block of the whole output. -/
theorem flushed_eq (c : Dev nD) (t : Fin cfg0.N) :
    (dats m 0 c).flushed 5 t = (win0_5.blk t).view.read (Elt F) (outAll m c) := by
  show (cfg0.win 5).cut (grid0.coords t) ((dats m 0 c).after 5 t) = _
  rw [after0_5]
  funext j
  have ht : t.val < 160 := Nat.lt_of_lt_of_eq t.isLt N_0
  have h0 : (j 0).val < 1024 := (j 0).isLt
  have h1 : (j 1).val < 512 := (j 1).isLt
  have e : cc0_transform_5 (grid0.coords t) = ![t.val % 8, t.val / 8] := (index_w t).2.2
  have ei : (Rect.block (s := S8192x10240) S1024x512.size (cc0_transform_5 (grid0.coords t)) (hinb0_5 (grid0.coords t))).idx j
      = ix2 (⟨1024 * (t.val % 8) + (j 0).val, by omega⟩ : Fin 8192) (⟨512 * (t.val / 8) + (j 1).val, by omega⟩ : Fin 10240) := by
    refine funext fun a => Fin.ext ?_
    match a with
    | ⟨0, _⟩ =>
      show cc0_transform_5 (grid0.coords t) 0 * S1024x512.size 0 + 1 * (j 0).val = _
      rw [e]
      show t.val % 8 * 1024 + 1 * (j 0).val = 1024 * (t.val % 8) + (j 0).val
      omega
    | ⟨1, _⟩ =>
      show cc0_transform_5 (grid0.coords t) 1 * S1024x512.size 1 + 1 * (j 1).val = _
      rw [e]
      show t.val / 8 * 512 + 1 * (j 1).val = 512 * (t.val / 8) + (j 1).val
      omega
  show outAt m c t j
    = outAll m c ((Rect.block (s := S8192x10240) S1024x512.size (cc0_transform_5 (grid0.coords t)) (hinb0_5 (grid0.coords t))).idx j)
  rw [ei]
  show _ = outAt m c (ptOut _ _) (ix2 _ _)
  have ep : ptOut (⟨1024 * (t.val % 8) + (j 0).val, by omega⟩ : Fin 8192) (⟨512 * (t.val / 8) + (j 1).val, by omega⟩ : Fin 10240) = t :=
    Fin.ext (show 8 * ((512 * (t.val / 8) + (j 1).val) / 512) + (1024 * (t.val % 8) + (j 0).val) / 1024 = t.val by omega)
  rw [show (ptOut _ _ : Fin cfg0.N) = t from ep]
  refine congrArg (outAt m c t) (funext fun a => Fin.ext ?_)
  match a with
  | ⟨0, _⟩ => show (j 0).val = (1024 * (t.val % 8) + (j 0).val) % 1024; omega
  | ⟨1, _⟩ => show (j 1).val = (512 * (t.val / 8) + (j 1).val) % 512; omega

/-- An index is in the block of the point its row and column name. -/
theorem mem_blk (t : Fin cfg0.N) (i : S8192x10240.Idx) (hr : t.val % 8 = (i 0).val / 1024) (hk : t.val / 8 = (i 1).val / 512) :
    i ∈ ((cfg0.win 5).blk t).view.set := by
  show i ∈ ((View.whole main_v3).slice (win0_5.rect t)).set
  rw [View.set_slice_whole, Rect.mem_set_unit]
  have e : cc0_transform_5 (grid0.coords t) = ![t.val % 8, t.val / 8] := (index_w t).2.2
  intro a
  match a with
  | ⟨0, _⟩ =>
    show cc0_transform_5 (grid0.coords t) 0 * S1024x512.size 0 ≤ (i 0).val
      ∧ (i 0).val < cc0_transform_5 (grid0.coords t) 0 * S1024x512.size 0 + 1024
    rw [e]
    show t.val % 8 * 1024 ≤ (i 0).val ∧ (i 0).val < t.val % 8 * 1024 + 1024
    omega
  | ⟨1, _⟩ =>
    show cc0_transform_5 (grid0.coords t) 1 * S1024x512.size 1 ≤ (i 1).val
      ∧ (i 1).val < cc0_transform_5 (grid0.coords t) 1 * S1024x512.size 1 + 512
    rw [e]
    show t.val / 8 * 512 ≤ (i 1).val ∧ (i 1).val < t.val / 8 * 512 + 512
    omega

/-- The blocks cover the output. -/
theorem cover (i : S8192x10240.Idx) : ∃ t : Fin cfg0.N, (cfg0.win 5).flush t = true ∧ i ∈ ((cfg0.win 5).blk t).view.set := by
  have h0 : (i 0).val < 8192 := (i 0).isLt
  have h1 : (i 1).val < 10240 := (i 1).isLt
  refine ⟨ptOut (i 0) (i 1), flush0_5 _, mem_blk _ i ?_ ?_⟩
  · show (8 * ((i 1).val / 512) + (i 0).val / 1024) % 8 = _; omega
  · show (8 * ((i 1).val / 512) + (i 0).val / 1024) / 8 = _; omega

/-- So the output array ends at the whole output. -/
theorem final (c : Dev nD) : (dats m 0 c).arrAt 5 cfg0.N = outAll m c :=
  (dats m 0 c).arrAt_eq_of_cover 5 (outAll m c) (fun t _ => flushed_eq m c t) cover

/-- The result: the output in the result's shape. -/
def result (c : Dev nD) : Vec F S16x512x10240 .bf16 :=
  shapeCast S16x512x10240 (outAll m c) shapeCasts_S8192x10240_S16x512x10240

/-- What the host's last line leaves in the result. -/
theorem tail_result (c : Dev nD) :
    Pipeline.afterTail₀ cfgs (dats m) 0 (V0 m) [hostOps1] c main_v4 = result m c := by
  unfold Pipeline.afterTail₀
  have e : Pipeline.withArrays spec0 c (V0 m c) (fun w => (dats m 0 c).arrAt w cfg0.N) (Proc.devRef .tc main_v3) = outAll m c :=
    (Pipeline.withArrays_arr spec0 launch0.win.arr_inj c (V0 m c) _ 5).trans (final m c)
  unfold result
  rw [← e]
  simp only [hostOps1, List.flatten_cons, List.flatten_nil, List.append_nil]
  after_results_simp <;> rfl

/-- The codes as the kernel finds them: the argument reshaped to rows. -/
theorem V_v0 (c : Dev nD) : V m c main_v0 = shapeCast S8192x1280 (m ((c : Thread nD τ).loc main_arg0)) shapeCasts_S16x512x1280_S8192x1280 := by
  dsimp only [V, V0, List.flatten_cons, List.flatten_nil, List.append_nil, List.cons_append, List.nil_append]
  after_results_simp <;> rfl

/-- The scales as the kernel finds them. -/
theorem V_v1 (c : Dev nD) : V m c main_v1 = shapeCast S8192x20 (m ((c : Thread nD τ).loc main_arg1)) shapeCasts_S16x512x20_S8192x20 := by
  dsimp only [V, V0, List.flatten_cons, List.flatten_nil, List.append_nil, List.cons_append, List.nil_append]
  after_results_simp <;> rfl

/-- The zero points as the kernel finds them. -/
theorem V_v2 (c : Dev nD) : V m c main_v2 = shapeCast S8192x20 (m ((c : Thread nD τ).loc main_arg2)) shapeCasts_S16x512x20_S8192x20 := by
  dsimp only [V, V0, List.flatten_cons, List.flatten_nil, List.append_nil, List.cons_append, List.nil_append]
  after_results_simp <;> rfl

/-- The run, read at the result. -/
theorem run_result : θ_run defs (onTc (τ := τ) (main (F := F))) ⟨m, fun _ => 0, ρ⟩ (fun r => ∀ c : Dev nD,
      r.2.mem ((c.tc : Thread nD τ).loc main_v4) = result m c) :=
  (θ_run defs _ _).mono (fun _ h c =>
    ((h c).2 main_v4 (Pipeline.mem_restRefs_of main_v4 (by decide) (by decide))).trans (tail_result m c)) (run_main m ρ)

end Cert.KernelIdeal.Gen

end
-- ==== Proof.Codes.lean ====
/- The four-bit codes: what masking and shifting whole words does to the bytes in them, and the integers the codes stand for.
   Both programs' values are stated over the integers of this module. -/
module

public import Idealize.ShloMosaic.Lib.BitcastFour
public import Idealize.ShloMosaic.Lib.IdealHost

@[expose] public section

set_option maxRecDepth 16384

noncomputable section

namespace Cert.Codes

open Idealize.ShloMosaic
open Idealize.ShloMosaic.ValueIdx (ix2 eq_ix2)

/-! ## Bytes inside words -/

/-- Words read as bytes: bit `q` of the byte at row `p` is bit `8 (p mod 4) + q` of the word at row `p / 4`. -/
theorem byte_of_word {R r n : ℕ} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4)
    (q : ℕ) (hq : q < 8) :
    (bitcast ⟨2, ![R, n]⟩ 8 x h (ix2 p l)).getLsbD q = (x (ix2 a l)).getLsbD (8 * (p.val % 4) + q) := by
  have hrow : (⟨2, ![R, n]⟩ : Shape).row (ix2 p l) = p.val := rfl
  rw [bitcast_getLsbD x h _ q hq (by decide)]
  have e1 : ((⟨2, ![R, n]⟩ : Shape).row (ix2 p l) * 8 + q) / 32 = a.val := by rw [hrow, ha]; omega
  have e2 : ((⟨2, ![R, n]⟩ : Shape).row (ix2 p l) * 8 + q) % 32 = 8 * (p.val % 4) + q := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Bit `8 k + q` of a word packed from bytes is bit `q` of the byte at row `4 a + k`. -/
theorem word_of_byte {R r n : ℕ} (x : (⟨2, ![R, n]⟩ : Shape).Idx → BitVec 8)
    (h : (⟨2, ![R, n]⟩ : Shape).Bitcasts 8 ⟨2, ![r, n]⟩ 32) (a : Fin r) (l : Fin n) (p : Fin R) (ha : a.val = p.val / 4)
    (q : ℕ) (hq : q < 8) :
    (bitcast ⟨2, ![r, n]⟩ 32 x h (ix2 a l)).getLsbD (8 * (p.val % 4) + q) = (x (ix2 p l)).getLsbD q := by
  rw [bitcast_8_32_getLsbD_ix2 x h a l (8 * (p.val % 4) + q) (by omega) p (by omega)]
  congr 1
  omega

section Words

variable {R r n : ℕ} (x : (⟨2, ![R, n]⟩ : Shape).Idx → BitVec 8)
  (h : (⟨2, ![R, n]⟩ : Shape).Bitcasts 8 ⟨2, ![r, n]⟩ 32) (h' : (⟨2, ![r, n]⟩ : Shape).Bitcasts 32 ⟨2, ![R, n]⟩ 8)

/-- Keeping the low four bits of every byte of every word keeps them of every byte. -/
theorem low_bytes (p : Fin R) (l : Fin n) (hr : p.val / 4 < r) :
    bitcast ⟨2, ![R, n]⟩ 8 (andi (bitcast ⟨2, ![r, n]⟩ 32 x h) (broadcast ⟨2, ![r, n]⟩ 252645135#32)) h' (ix2 p l)
      = x (ix2 p l) &&& 15#8 := by
  apply BitVec.eq_of_getLsbD_eq
  intro q hq
  rw [byte_of_word _ h' p l ⟨p.val / 4, hr⟩ rfl q hq]
  show (bitcast ⟨2, ![r, n]⟩ 32 x h (ix2 _ l) &&& 252645135#32).getLsbD _ = _
  rw [BitVec.getLsbD_and, word_of_byte x h _ l p rfl q hq, BitVec.getLsbD_and]
  congr 1
  have : ∀ k : Fin 4, ∀ q : Fin 8, (252645135#32).getLsbD (8 * k.val + q.val) = (15#8).getLsbD q.val := by decide
  exact this ⟨p.val % 4, by omega⟩ ⟨q, hq⟩

/-- Shifting every word right by four and keeping the low four bits of every byte shifts every byte right by four. -/
theorem high_bytes (p : Fin R) (l : Fin n) (hr : p.val / 4 < r) :
    bitcast ⟨2, ![R, n]⟩ 8 (andi (shrsi (bitcast ⟨2, ![r, n]⟩ 32 x h) (broadcast ⟨2, ![r, n]⟩ 4#32))
        (broadcast ⟨2, ![r, n]⟩ 252645135#32)) h' (ix2 p l)
      = x (ix2 p l) >>> 4 := by
  apply BitVec.eq_of_getLsbD_eq
  intro q hq
  rw [byte_of_word _ h' p l ⟨p.val / 4, hr⟩ rfl q hq]
  show (BitVec.sshiftRight (bitcast ⟨2, ![r, n]⟩ 32 x h (ix2 _ l)) 4 &&& 252645135#32).getLsbD _ = _
  have hk : ∀ k : Fin 4, ∀ q : Fin 8, (252645135#32).getLsbD (8 * k.val + q.val) = decide (q.val < 4) := by decide
  rw [BitVec.getLsbD_and, hk ⟨p.val % 4, by omega⟩ ⟨q, hq⟩, BitVec.getLsbD_ushiftRight]
  by_cases h4 : q < 4
  · rw [decide_eq_true h4, Bool.and_true, BitVec.getLsbD_sshiftRight]
    rw [show (decide (32 ≤ 8 * (p.val % 4) + q)) = false from decide_eq_false (by omega),
      if_pos (show 4 + (8 * (p.val % 4) + q) < 32 by omega), show 4 + (8 * (p.val % 4) + q) = 8 * (p.val % 4) + (4 + q) by omega,
      word_of_byte x h _ l p rfl (4 + q) (by omega)]
    rfl
  · rw [decide_eq_false h4, Bool.and_false, BitVec.getLsbD_of_ge _ _ (by omega)]

/-- Shifting every word left by four and keeping the high four bits of every byte shifts every byte left by four. -/
theorem low_bytes_up (p : Fin R) (l : Fin n) (hr : p.val / 4 < r) :
    bitcast ⟨2, ![R, n]⟩ 8 (andi (shli (bitcast ⟨2, ![r, n]⟩ 32 x h) (broadcast ⟨2, ![r, n]⟩ 4#32))
        (broadcast ⟨2, ![r, n]⟩ 4042322160#32)) h' (ix2 p l)
      = x (ix2 p l) <<< 4 := by
  apply BitVec.eq_of_getLsbD_eq
  intro q hq
  rw [byte_of_word _ h' p l ⟨p.val / 4, hr⟩ rfl q hq]
  show ((bitcast ⟨2, ![r, n]⟩ 32 x h (ix2 _ l)) <<< 4 &&& 4042322160#32).getLsbD _ = _
  have hk : ∀ k : Fin 4, ∀ q : Fin 8, (4042322160#32).getLsbD (8 * k.val + q.val) = decide (4 ≤ q.val) := by decide
  rw [BitVec.getLsbD_and, hk ⟨p.val % 4, by omega⟩ ⟨q, hq⟩, BitVec.getLsbD_shiftLeft, BitVec.getLsbD_shiftLeft]
  by_cases h4 : 4 ≤ q
  · rw [decide_eq_true h4, Bool.and_true, decide_eq_true (show 8 * (p.val % 4) + q < 32 by omega), decide_eq_true hq,
      decide_eq_false (show ¬ 8 * (p.val % 4) + q < 4 by omega), decide_eq_false (show ¬ q < 4 by omega),
      show 8 * (p.val % 4) + q - 4 = 8 * (p.val % 4) + (q - 4) by omega, word_of_byte x h _ l p rfl (q - 4) (by omega)]
  · rw [decide_eq_false h4, decide_eq_true (show q < 4 by omega)]
    simp

/-- Keeping the high four bits of every byte of every word keeps them of every byte. -/
theorem high_bytes_up (p : Fin R) (l : Fin n) (hr : p.val / 4 < r) :
    bitcast ⟨2, ![R, n]⟩ 8 (andi (bitcast ⟨2, ![r, n]⟩ 32 x h) (broadcast ⟨2, ![r, n]⟩ 4042322160#32)) h' (ix2 p l)
      = x (ix2 p l) &&& 240#8 := by
  apply BitVec.eq_of_getLsbD_eq
  intro q hq
  rw [byte_of_word _ h' p l ⟨p.val / 4, hr⟩ rfl q hq]
  show (bitcast ⟨2, ![r, n]⟩ 32 x h (ix2 _ l) &&& 4042322160#32).getLsbD _ = _
  rw [BitVec.getLsbD_and, word_of_byte x h _ l p rfl q hq, BitVec.getLsbD_and]
  congr 1
  have : ∀ k : Fin 4, ∀ q : Fin 8, (4042322160#32).getLsbD (8 * k.val + q.val) = (240#8).getLsbD q.val := by decide
  exact this ⟨p.val % 4, by omega⟩ ⟨q, hq⟩

end Words

/-! ## The integers -/

/-- The unsigned low code of a byte. -/
def lowU (b : BitVec 8) : ℤ := (b.toNat % 16 : ℕ)
/-- The unsigned high code of a byte. -/
def highU (b : BitVec 8) : ℤ := (b.toNat / 16 : ℕ)
/-- A four-bit code read in two's complement. -/
def signed (n : ℤ) : ℤ := if 8 ≤ n then n - 16 else n

theorem toInt_low (b : BitVec 8) : (b &&& 15#8).toInt = lowU b := by revert b; decide +kernel
theorem toInt_high (b : BitVec 8) : (b >>> 4).toInt = highU b := by revert b; decide +kernel
theorem toInt_low_up (b : BitVec 8) : (b <<< 4).toInt = 16 * signed (lowU b) := by revert b; decide +kernel
theorem toInt_high_up (b : BitVec 8) : (b &&& 240#8).toInt = 16 * signed (highU b) := by revert b; decide +kernel

/-- A byte widened with zeros is its number. -/
theorem toInt_wide (b : BitVec 8) : (b.setWidth 32).toInt = (b.toNat : ℤ) := by revert b; decide +kernel
theorem toInt_wide_low (b : BitVec 8) : (b.setWidth 32 &&& 15#32).toInt = lowU b := by revert b; decide +kernel
theorem toInt_wide_high (b : BitVec 8) : ((b.setWidth 32).sshiftRight 4).toInt = highU b := by revert b; decide +kernel

theorem lowU_bounds (b : BitVec 8) : 0 ≤ lowU b ∧ lowU b < 16 := by unfold lowU; omega
theorem highU_bounds (b : BitVec 8) : 0 ≤ highU b ∧ highU b < 16 := by unfold highU; have := b.isLt; omega

/-- The difference of two small numbers in 32-bit words is their difference. -/
theorem toInt_sub_small (x y : BitVec 32) (hx : 0 ≤ x.toInt ∧ x.toInt < 256) (hy : 0 ≤ y.toInt ∧ y.toInt < 256) :
    (x - y).toInt = x.toInt - y.toInt := by
  rw [BitVec.toInt_sub]
  exact Int.bmod_eq_of_le (by omega) (by omega)

/-- The reference's sign correction of a small word. -/
theorem toInt_signed (x : BitVec 32) (hx : 0 ≤ x.toInt ∧ x.toInt < 16) :
    (if IntOp.cmpi .sge x 8#32 = 1#1 then x - 16#32 else x).toInt = signed x.toInt := by
  have e : IntOp.cmpi .sge x 8#32 = 1#1 ↔ 8 ≤ x.toInt := by
    have : (8#32 : BitVec 32).toInt = 8 := rfl
    simp only [IntOp.cmpi, BitVec.sle, this]
    by_cases h : 8 ≤ x.toInt <;> simp [h]
  unfold signed
  by_cases h : 8 ≤ x.toInt
  · rw [if_pos (e.2 h), if_pos h, toInt_sub_small _ _ ⟨hx.1, by omega⟩ (by decide)]; rfl
  · rw [if_neg (mt e.1 h), if_neg h]

/-! ## The dequantized values -/

/-- A dequantized activation: the code less the zero point, times the scale. -/
def act (n z : ℤ) (s : EReal) : EReal := (((n - z : ℤ) : ℝ) : EReal) * s

/-- A dequantized weight: the signed code times the scale. -/
def wgt (n : ℤ) (s : EReal) : EReal := ((n : ℝ) : EReal) * s

/-- The difference taken of the reals. -/
theorem act_of_sub (n z : ℤ) (s : EReal) : (((n : ℝ) : EReal) - ((z : ℝ) : EReal)) * s = act n z s := by
  unfold act
  rw [← EReal.coe_sub, Int.cast_sub]

/-- Sixteen times a code, times a sixteenth. -/
theorem wgt_of_sixteen (n : ℤ) (s : EReal) :
    (((16 * n : ℤ) : ℝ) : EReal) * Ideal.ofBits .bf16 0x3D80#16 * s = wgt n s := by
  unfold wgt
  rw [Ideal.ofBits_sixteenth_bf16, ← EReal.coe_mul]
  congr 2
  push_cast
  ring

end Cert.Codes

end
-- ==== Proof.ActValue.lean ====
/- The values of the kernel's dequantized activations, at the ideal values: each is its code less its group's zero point,
   times its group's scale. -/
module

public import proofs.«01_k».proof.Proof.Blocks
public import proofs.«01_k».proof.Proof.Codes
public import Idealize.ShloMosaic.Lib.Pipeline.ValueKit.Tiles

@[expose] public section

set_option maxRecDepth 16384

noncomputable section

namespace Cert.KernelIdeal.Gen

open Idealize.ShloMosaic Idealize.ShloMosaic.TcCoe
open Idealize.ShloMosaic.ValueIdx (ix2 eq_ix2)
open Cert.Codes

/-! ## The lane a gather reads -/

/-- The kernel's floor division by 64, on one word. -/
def floorDiv64 (x : BitVec 32) : BitVec 32 :=
  Scalar.select (IntOp.andi
      (IntOp.cmpi .ne (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

/-- The wrap of a negative index, on one word. -/
def wrapNeg (x : BitVec 32) : BitVec 32 := Scalar.select (IntOp.cmpi .slt x 0#32) (IntOp.addi x 128#32) x

theorem pay97_apply (p l : Fin 128) : k0_pay97 (ix2 p l) = floorDiv64 (BitVec.ofNat 32 l.val) := by
  have e : (BitVec.ofNat 32 l.val) = BitVec.ofNat 32 (0 * 128 + l.val) := by rw [Nat.zero_mul, Nat.zero_add]
  rw [e]
  rfl

set_option maxHeartbeats 4000000 in
/-- Lane `l` of tile `c` reads group `2 c + l / 64`. -/
theorem lane_group : ∀ c : Fin 10, ∀ l : Fin 128,
    (wrapNeg (IntOp.addi (floorDiv64 (BitVec.ofNat 32 l.val)) (BitVec.ofNat 32 (2 * c.val)))).toNat % 128 = 2 * c.val + l.val / 64 := by
  decide +kernel

/-- The group of lane `l` of tile `c`. -/
def grp (c : Fin 10) (l : Fin 128) : Fin 20 := ⟨2 * c.val + l.val / 64, by omega⟩

/-- What a gather of a table padded to 128 lanes reads. -/
theorem gather_apply {α : Type} (v : S128x128.Idx → α) (c : Fin 10) (p l : Fin 128) (idx : IVec S128x128 32)
    (hidx : idx (ix2 p l) = wrapNeg (actIdx (BitVec.ofNat 32 (2 * c.val)) (ix2 p l))) :
    dynamicGather 1 v idx (ix2 p l) = v (ix2 p (⟨2 * c.val + l.val / 64, by omega⟩ : Fin 128)) := by
  show v _ = _
  refine congrArg v (funext fun b => ?_)
  match b with
  | ⟨0, _⟩ => rfl
  | ⟨1, _⟩ =>
    refine Fin.ext ?_
    show (idx (ix2 p l)).toNat % 128 = _
    rw [hidx]
    show (wrapNeg (IntOp.addi (k0_pay97 (ix2 p l)) (BitVec.ofNat 32 (2 * c.val)))).toNat % 128 = _
    rw [pay97_apply, lane_group]

/-! ## The tables -/

/-- The scales padded to 128 lanes, in their own lanes. -/
theorem pay98_apply (s : Vec Ideal S128x20 .f32) (p : Fin 128) (g : Fin 20) :
    k0_pay98 (F := Ideal) s (ix2 p (⟨g.val, by omega⟩ : Fin 128)) = s (ix2 p g) := by
  unfold k0_pay98
  show (concatenate S128x128 1 [⟨S128x20, truncf (F := Ideal) .bf16 (shapeCast S128x20 s shapeCasts_S128x20_S128x20) bitsLt_bf16_f32⟩,
    ⟨S128x108, broadcast S128x108 (Scalar.ofBits (F := Ideal) .bf16 0x0000#16)⟩] concatenates_S128x20_S128x108_S128x128_d1 (ix2 p _) : EReal) = _
  refine (concatenate_pair_apply_left (α := EReal) (t := S128x128) (s₁ := S128x20) (s₂ := S128x108) 1 _ _ _ _ rfl (ix2 p g) ?_).trans ?_
  · intro b
    match b with
    | ⟨0, _⟩ => rfl
    | ⟨1, _⟩ => rfl
  · show shapeCast _ s _ (ix2 p g) = _
    rw [shapeCast_self]

/-- The zero points padded to 128 lanes, in their own lanes. -/
theorem pay99_apply (z : Vec Ideal S128x20 .i8) (p : Fin 128) (g : Fin 20) :
    k0_pay99 (F := Ideal) z (ix2 p (⟨g.val, by omega⟩ : Fin 128)) = ((((z (ix2 p g)).toNat : ℤ) : ℝ) : EReal) := by
  unfold k0_pay99
  show (concatenate S128x128 1 [⟨S128x20, truncf (F := Ideal) .bf16 (sitofp .f32 (extui 32 (shapeCast S128x20 z shapeCasts_S128x20_S128x20)
    natLt_8_32)) bitsLt_bf16_f32⟩, ⟨S128x108, broadcast S128x108 (Scalar.ofBits (F := Ideal) .bf16 0x0000#16)⟩]
    concatenates_S128x20_S128x108_S128x128_d1 (ix2 p _) : EReal) = _
  refine (concatenate_pair_apply_left (α := EReal) (t := S128x128) (s₁ := S128x20) (s₂ := S128x108) 1 _ _ _ _ rfl (ix2 p g) ?_).trans ?_
  · intro b
    match b with
    | ⟨0, _⟩ => rfl
    | ⟨1, _⟩ => rfl
  · show ((((shapeCast _ z _ (ix2 p g) : BitVec 8).setWidth 32).toInt : ℝ) : EReal) = _
    rw [shapeCast_self, toInt_wide]

/-- The scale lane `l` of tile `c` uses. -/
theorem pay654_apply (s : Vec Ideal S128x20 .f32) (c : Fin 10) (p l : Fin 128) :
    k0_pay654 (F := Ideal) (k0_pay98 s) (actIdx (BitVec.ofNat 32 (2 * c.val))) (ix2 p l) = s (ix2 p (grp c l)) := by
  unfold k0_pay654
  exact (gather_apply (α := EReal) _ c p l _ (by rw [shapeCast_shapeCast]; rfl)).trans (pay98_apply s p (grp c l))

/-- The zero point lane `l` of tile `c` uses. -/
theorem pay655_apply (z : Vec Ideal S128x20 .i8) (c : Fin 10) (p l : Fin 128) :
    k0_pay655 (F := Ideal) (k0_pay99 z) (actIdx (BitVec.ofNat 32 (2 * c.val))) (ix2 p l)
      = ((((z (ix2 p (grp c l))).toNat : ℤ) : ℝ) : EReal) := by
  unfold k0_pay655
  exact (gather_apply (α := EReal) _ c p l _ (by rw [shapeCast_shapeCast]; rfl)).trans (pay99_apply z p (grp c l))

/-! ## The tiles -/

/-- A tile of low codes, dequantized. -/
theorem actLo_apply (q : Vec Ideal S128x128 .i8) (s : Vec Ideal S128x20 .f32) (z : Vec Ideal S128x20 .i8) (c : Fin 10) (p l : Fin 128) :
    actLo (F := Ideal) (BitVec.ofNat 32 (2 * c.val)) q s z (ix2 p l)
      = act (lowU (q (ix2 p l))) (z (ix2 p (grp c l))).toNat (s (ix2 p (grp c l))) := by
  unfold actLo k0_pay657 k0_pay656
  dsimp only
  rw [shapeCast_self, shapeCast_self, ← act_of_sub, ← toInt_low, ← pay654_apply s c p l, ← pay655_apply z c p l,
    ← low_bytes q bitcasts_S128x128_w8_S32x128_w32 bitcasts_S32x128_w32_S128x128_w8 p l (by omega)]
  rfl

/-- A tile of high codes, dequantized. -/
theorem actHi_apply (q : Vec Ideal S128x128 .i8) (s : Vec Ideal S128x20 .f32) (z : Vec Ideal S128x20 .i8) (c : Fin 10) (p l : Fin 128) :
    actHi (F := Ideal) (BitVec.ofNat 32 (2 * c.val)) q s z (ix2 p l)
      = act (highU (q (ix2 p l))) (z (ix2 p (grp c l))).toNat (s (ix2 p (grp c l))) := by
  unfold actHi k0_pay658 k0_pay656
  dsimp only
  rw [shapeCast_self, shapeCast_self, ← act_of_sub, ← toInt_high, ← pay654_apply s c p l, ← pay655_apply z c p l,
    ← high_bytes q bitcasts_S128x128_w8_S32x128_w32 bitcasts_S32x128_w32_S128x128_w8 p l (by omega)]
  rfl

end Cert.KernelIdeal.Gen

end
-- ==== Proof.WgtValue.lean ====
/- The values of the kernel's dequantized weights, at the ideal values: each is its signed code times its group's scale. -/
module

public import proofs.«01_k».proof.Proof.Blocks
public import proofs.«01_k».proof.Proof.Codes
public import Idealize.ShloMosaic.Lib.Pipeline.ValueKit.Tiles

@[expose] public section

set_option maxRecDepth 16384

noncomputable section

namespace Cert.KernelIdeal.Gen

open Idealize.ShloMosaic Idealize.ShloMosaic.TcCoe
open Idealize.ShloMosaic.ValueIdx (ix2 eq_ix2)
open Cert.Codes

/-- Row `g` of the scales, in every row of a group. -/
theorem wRow_apply (g : Fin 20) (s : Vec Ideal S20x512 .f32) (i : Fin 64) (j : Fin 512) :
    broadcastTo S64x512 (wRow (F := Ideal) g s) broadcasts_S1x512_S64x512 (ix2 i j) = s (ix2 g j) := by
  rw [broadcastTo_apply (k := ix2 (0 : Fin 1) j)]
  · unfold wRow k0_pay5
    show s _ = s _
    refine congrArg s (funext fun a => Fin.ext ?_)
    match a with
    | ⟨0, _⟩ => show g.val + 0 = g.val; omega
    | ⟨1, _⟩ => show 0 + j.val = j.val; omega
  · intro a
    match a with
    | ⟨0, _⟩ => rfl
    | ⟨1, _⟩ => rfl

/-- A group of low codes, dequantized. -/
theorem wLo_apply (g : Fin 20) (s : Vec Ideal S20x512 .f32) (q : Vec Ideal S64x512 .i8) (i : Fin 64) (j : Fin 512) :
    wLo (F := Ideal) g s q (ix2 i j) = wgt (signed (lowU (q (ix2 i j)))) (s (ix2 g j)) := by
  unfold wLo wScaled k0_pay6
  rw [shapeCast_self, ← wgt_of_sixteen, ← toInt_low_up, ← wRow_apply g s i j,
    ← low_bytes_up q bitcasts_S64x512_w8_S16x512_w32 bitcasts_S16x512_w32_S64x512_w8 i j (by omega)]
  rfl

/-- A group of high codes, dequantized. -/
theorem wHi_apply (g : Fin 20) (s : Vec Ideal S20x512 .f32) (q : Vec Ideal S64x512 .i8) (i : Fin 64) (j : Fin 512) :
    wHi (F := Ideal) g s q (ix2 i j) = wgt (signed (highU (q (ix2 i j)))) (s (ix2 g j)) := by
  unfold wHi wScaled k0_pay6
  rw [shapeCast_self, ← wgt_of_sixteen, ← toInt_high_up, ← wRow_apply g s i j,
    ← high_bytes_up q bitcasts_S64x512_w8_S16x512_w32 bitcasts_S16x512_w32_S64x512_w8 i j (by omega)]
  rfl

end Cert.KernelIdeal.Gen

end
-- ==== Proof.KernelValue.lean ====
/- The kernel's output at the ideal values: each entry is the sum over the low codes plus the sum over the high codes. -/
module

public import proofs.«01_k».proof.Proof.Result
public import proofs.«01_k».proof.Proof.ActValue
public import proofs.«01_k».proof.Proof.WgtValue
public import Idealize.ShloMosaic.Lib.MatmulPlain

@[expose] public section

set_option maxRecDepth 16384

noncomputable section

namespace Cert.KernelIdeal.Gen

open Idealize.ShloMosaic Idealize.ShloMosaic.TcCoe
open Idealize.ShloMosaic.ValueIdx (ix2 eq_ix2)
open Cert.Codes
open scoped BigOperators

/-! ## The blocks the tiles read -/

/-- A tile of codes at an index. -/
theorem codeTile_apply (x : Vec Ideal S1024x1280 .i8) (r : Fin 8) (c : Fin 10) (u v : Fin 128) (a : Fin 1024) (k : Fin 1280)
    (ha : a.val = 128 * r.val + u.val) (hk : k.val = 128 * c.val + v.val) : codeTile x r c (ix2 u v) = x (ix2 a k) := by
  unfold codeTile
  show x _ = x _
  refine congrArg x (funext fun b => Fin.ext ?_)
  match b with
  | ⟨0, _⟩ => show 128 * r.val + 1 * u.val = a.val; omega
  | ⟨1, _⟩ => show 128 * c.val + 1 * v.val = k.val; omega

/-- The rows of a per-group table at an index. -/
theorem groupRows_apply {e : EltTy} (x : Vec Ideal S1024x20 e) (r : Fin 8) (u : Fin 128) (g : Fin 20) (a : Fin 1024)
    (ha : a.val = 128 * r.val + u.val) : groupRows x r (ix2 u g) = x (ix2 a g) := by
  unfold groupRows
  show x _ = x _
  refine congrArg x (funext fun b => Fin.ext ?_)
  match b with
  | ⟨0, _⟩ => show 128 * r.val + 1 * u.val = a.val; omega
  | ⟨1, _⟩ => show 0 + 1 * g.val = g.val; omega

/-- A group of packed weights at an index. -/
theorem codeRows_apply (x : Vec Ideal S1280x512 .i8) (g : Fin 20) (i : Fin 64) (j : Fin 512) (k : Fin 1280)
    (hk : k.val = 64 * g.val + i.val) : codeRows x g (ix2 i j) = x (ix2 k j) := by
  unfold codeRows
  show x _ = x _
  refine congrArg x (funext fun b => Fin.ext ?_)
  match b with
  | ⟨0, _⟩ => show 64 * g.val + 1 * i.val = k.val; omega
  | ⟨1, _⟩ => show 0 + 1 * j.val = j.val; omega

/-! ## The dequantized blocks -/

/-- The group of position `k`. -/
def group (k : Fin 1280) : Fin 20 := ⟨k.val / 64, by omega⟩
/-- Position `k` among the low codes. -/
def lo (k : Fin 1280) : Fin 2560 := ⟨k.val, by omega⟩
/-- Position `k` among the high codes. -/
def hi (k : Fin 1280) : Fin 2560 := ⟨1280 + k.val, by omega⟩

/-- The band of low codes at a row and a position. -/
theorem actBand_lo_apply (x0 : Vec Ideal S1024x1280 .i8) (x1 : Vec Ideal S1024x20 .f32) (x2 : Vec Ideal S1024x20 .i8)
    (a : Fin 1024) (k : Fin 1280) :
    actBand (F := Ideal) x0 x1 x2 a (lo k) = act (lowU (x0 (ix2 a k))) (x2 (ix2 a (group k))).toNat (x1 (ix2 a (group k))) := by
  rw [actBand_lo x0 x1 x2 (⟨a.val / 128, by omega⟩ : Fin 8) (⟨k.val / 128, by omega⟩ : Fin 10) (⟨a.val % 128, by omega⟩ : Fin 128)
      (⟨k.val % 128, by omega⟩ : Fin 128) a (lo k) (by show a.val = 128 * (a.val / 128) + a.val % 128; omega)
      (by show k.val = 128 * (k.val / 128) + k.val % 128; omega), actLo_apply]
  have eg : grp (⟨k.val / 128, by omega⟩ : Fin 10) (⟨k.val % 128, by omega⟩ : Fin 128) = group k :=
    Fin.ext (show 2 * (k.val / 128) + k.val % 128 / 64 = k.val / 64 by omega)
  rw [eg, codeTile_apply x0 _ _ _ _ a k (by show a.val = 128 * (a.val / 128) + a.val % 128; omega)
      (by show k.val = 128 * (k.val / 128) + k.val % 128; omega),
    groupRows_apply x1 _ _ _ a (by show a.val = 128 * (a.val / 128) + a.val % 128; omega),
    groupRows_apply x2 _ _ _ a (by show a.val = 128 * (a.val / 128) + a.val % 128; omega)]

/-- The band of high codes at a row and a position. -/
theorem actBand_hi_apply (x0 : Vec Ideal S1024x1280 .i8) (x1 : Vec Ideal S1024x20 .f32) (x2 : Vec Ideal S1024x20 .i8)
    (a : Fin 1024) (k : Fin 1280) :
    actBand (F := Ideal) x0 x1 x2 a (hi k) = act (highU (x0 (ix2 a k))) (x2 (ix2 a (group k))).toNat (x1 (ix2 a (group k))) := by
  rw [actBand_hi x0 x1 x2 (⟨a.val / 128, by omega⟩ : Fin 8) (⟨k.val / 128, by omega⟩ : Fin 10) (⟨a.val % 128, by omega⟩ : Fin 128)
      (⟨k.val % 128, by omega⟩ : Fin 128) a (hi k) (by show a.val = 128 * (a.val / 128) + a.val % 128; omega)
      (by show 1280 + k.val = 1280 + 128 * (k.val / 128) + k.val % 128; omega), actHi_apply]
  have eg : grp (⟨k.val / 128, by omega⟩ : Fin 10) (⟨k.val % 128, by omega⟩ : Fin 128) = group k :=
    Fin.ext (show 2 * (k.val / 128) + k.val % 128 / 64 = k.val / 64 by omega)
  rw [eg, codeTile_apply x0 _ _ _ _ a k (by show a.val = 128 * (a.val / 128) + a.val % 128; omega)
      (by show k.val = 128 * (k.val / 128) + k.val % 128; omega),
    groupRows_apply x1 _ _ _ a (by show a.val = 128 * (a.val / 128) + a.val % 128; omega),
    groupRows_apply x2 _ _ _ a (by show a.val = 128 * (a.val / 128) + a.val % 128; omega)]

/-- The dequantized low weights at a position and a column. -/
theorem wAll_lo_apply (x3 : Vec Ideal S1280x512 .i8) (x4 : Vec Ideal S20x512 .f32) (k : Fin 1280) (j : Fin 512) :
    wAll (F := Ideal) x3 x4 (ix2 (lo k) j) = wgt (signed (lowU (x3 (ix2 k j)))) (x4 (ix2 (group k) j)) := by
  unfold wAll
  rw [dif_pos (show (lo k).val < 1280 from k.isLt)]
  refine (wLo_apply (group k) x4 (codeRows x3 (group k)) (⟨k.val % 64, by omega⟩ : Fin 64) j).trans ?_
  rw [codeRows_apply x3 (group k) _ j k (by show k.val = 64 * (k.val / 64) + k.val % 64; omega)]

/-- The dequantized high weights at a position and a column. -/
theorem wAll_hi_apply (x3 : Vec Ideal S1280x512 .i8) (x4 : Vec Ideal S20x512 .f32) (k : Fin 1280) (j : Fin 512) :
    wAll (F := Ideal) x3 x4 (ix2 (hi k) j) = wgt (signed (highU (x3 (ix2 k j)))) (x4 (ix2 (group k) j)) := by
  have e1 : 1280 + k.val - 1280 = k.val := by omega
  unfold wAll
  rw [dif_neg (show ¬ (hi k).val < 1280 by show ¬ 1280 + k.val < 1280; omega)]
  have eg : (⟨((hi k).val - 1280) / 64, by show (1280 + k.val - 1280) / 64 < 20; omega⟩ : Fin 20) = group k :=
    Fin.ext (show (1280 + k.val - 1280) / 64 = k.val / 64 by rw [e1])
  have ei : (⟨((hi k).val - 1280) % 64, by omega⟩ : Fin 64) = ⟨k.val % 64, by omega⟩ :=
    Fin.ext (show (1280 + k.val - 1280) % 64 = k.val % 64 by rw [e1])
  show wHi ⟨((hi k).val - 1280) / 64, _⟩ x4 (codeRows x3 ⟨((hi k).val - 1280) / 64, _⟩) (ix2 ⟨((hi k).val - 1280) % 64, _⟩ j) = _
  rw [eg, ei]
  refine (wHi_apply (group k) x4 (codeRows x3 (group k)) (⟨k.val % 64, by omega⟩ : Fin 64) j).trans ?_
  rw [codeRows_apply x3 (group k) _ j k (by show k.val = 64 * (k.val / 64) + k.val % 64; omega)]

/-! ## The whole arrays -/

variable (m : (ℓ : Loc nD τ sig) → Buf (Elt Ideal) ℓ)

/-- The dequantized activation of row `r` at low position `k`, of the rows the kernel is given. -/
theorem actAll_lo (c : Dev nD) (r : Fin 8192) (k : Fin 1280) :
    actAll m c (ix2 r (lo k)) = act (lowU (V m c main_v0 (ix2 r k))) (BitVec.toNat (w := 8) (V m c main_v2 (ix2 r (group k))))
      (V m c main_v1 (ix2 r (group k))) := by
  have hr : (⟨1024 * (r.val / 1024) + r.val % 1024, by omega⟩ : Fin 8192) = r := Fin.ext (by show _ + _ = _; omega)
  have h := actBand_lo_apply (iblk m c 0 (pt ⟨r.val / 1024, by omega⟩)) (iblk m c 1 (pt ⟨r.val / 1024, by omega⟩))
    (iblk m c 2 (pt ⟨r.val / 1024, by omega⟩)) (⟨r.val % 1024, by omega⟩ : Fin 1024) k
  refine h.trans ?_
  rw [iblk_0 m c _ (by show r.val / 1024 < 8; omega) _ (by show 1024 * (r.val / 1024) + r.val % 1024 < 8192; omega),
    iblk_1 m c _ (by show r.val / 1024 < 8; omega) _ (by show 1024 * (r.val / 1024) + r.val % 1024 < 8192; omega),
    iblk_2 m c _ (by show r.val / 1024 < 8; omega) _ (by show 1024 * (r.val / 1024) + r.val % 1024 < 8192; omega)]
  show act (lowU (V m c main_v0 (ix2 (⟨1024 * (r.val / 1024) + r.val % 1024, _⟩ : Fin 8192) k)))
    (BitVec.toNat (w := 8) (V m c main_v2 (ix2 (⟨1024 * (r.val / 1024) + r.val % 1024, _⟩ : Fin 8192) (group k))))
    (V m c main_v1 (ix2 (⟨1024 * (r.val / 1024) + r.val % 1024, _⟩ : Fin 8192) (group k))) = _
  rw [hr]

/-- The dequantized activation of row `r` at high position `k`. -/
theorem actAll_hi (c : Dev nD) (r : Fin 8192) (k : Fin 1280) :
    actAll m c (ix2 r (hi k)) = act (highU (V m c main_v0 (ix2 r k))) (BitVec.toNat (w := 8) (V m c main_v2 (ix2 r (group k))))
      (V m c main_v1 (ix2 r (group k))) := by
  have hr : (⟨1024 * (r.val / 1024) + r.val % 1024, by omega⟩ : Fin 8192) = r := Fin.ext (by show _ + _ = _; omega)
  have h := actBand_hi_apply (iblk m c 0 (pt ⟨r.val / 1024, by omega⟩)) (iblk m c 1 (pt ⟨r.val / 1024, by omega⟩))
    (iblk m c 2 (pt ⟨r.val / 1024, by omega⟩)) (⟨r.val % 1024, by omega⟩ : Fin 1024) k
  refine h.trans ?_
  rw [iblk_0 m c _ (by show r.val / 1024 < 8; omega) _ (by show 1024 * (r.val / 1024) + r.val % 1024 < 8192; omega),
    iblk_1 m c _ (by show r.val / 1024 < 8; omega) _ (by show 1024 * (r.val / 1024) + r.val % 1024 < 8192; omega),
    iblk_2 m c _ (by show r.val / 1024 < 8; omega) _ (by show 1024 * (r.val / 1024) + r.val % 1024 < 8192; omega)]
  show act (highU (V m c main_v0 (ix2 (⟨1024 * (r.val / 1024) + r.val % 1024, _⟩ : Fin 8192) k)))
    (BitVec.toNat (w := 8) (V m c main_v2 (ix2 (⟨1024 * (r.val / 1024) + r.val % 1024, _⟩ : Fin 8192) (group k))))
    (V m c main_v1 (ix2 (⟨1024 * (r.val / 1024) + r.val % 1024, _⟩ : Fin 8192) (group k))) = _
  rw [hr]

/-- The dequantized weight of column `n` at low position `k`, in the block of the column's points. -/
theorem wAt_lo (c : Dev nD) (t : Fin cfg0.N) (n : Fin 10240) (ht : t.val / 8 = n.val / 512) (k : Fin 1280) :
    wAt m c t (ix2 (lo k) (⟨n.val % 512, by omega⟩ : Fin 512))
      = wgt (signed (lowU (V m c main_arg3 (ix2 k n)))) (V m c main_arg4 (ix2 (group k) n)) := by
  have hn : (⟨512 * (t.val / 8) + n.val % 512, by omega⟩ : Fin 10240) = n := Fin.ext (by show _ + _ = _; omega)
  refine (wAll_lo_apply (iblk m c 3 t) (iblk m c 4 t) k (⟨n.val % 512, by omega⟩ : Fin 512)).trans ?_
  rw [iblk_3 m c t _ (by show 512 * (t.val / 8) + n.val % 512 < 10240; omega),
    iblk_4 m c t _ (by show 512 * (t.val / 8) + n.val % 512 < 10240; omega)]
  show wgt (signed (lowU (V m c main_arg3 (ix2 k (⟨512 * (t.val / 8) + n.val % 512, _⟩ : Fin 10240)))))
    (V m c main_arg4 (ix2 (group k) (⟨512 * (t.val / 8) + n.val % 512, _⟩ : Fin 10240))) = _
  rw [hn]

/-- The dequantized weight of column `n` at high position `k`. -/
theorem wAt_hi (c : Dev nD) (t : Fin cfg0.N) (n : Fin 10240) (ht : t.val / 8 = n.val / 512) (k : Fin 1280) :
    wAt m c t (ix2 (hi k) (⟨n.val % 512, by omega⟩ : Fin 512))
      = wgt (signed (highU (V m c main_arg3 (ix2 k n)))) (V m c main_arg4 (ix2 (group k) n)) := by
  have hn : (⟨512 * (t.val / 8) + n.val % 512, by omega⟩ : Fin 10240) = n := Fin.ext (by show _ + _ = _; omega)
  refine (wAll_hi_apply (iblk m c 3 t) (iblk m c 4 t) k (⟨n.val % 512, by omega⟩ : Fin 512)).trans ?_
  rw [iblk_3 m c t _ (by show 512 * (t.val / 8) + n.val % 512 < 10240; omega),
    iblk_4 m c t _ (by show 512 * (t.val / 8) + n.val % 512 < 10240; omega)]
  show wgt (signed (highU (V m c main_arg3 (ix2 k (⟨512 * (t.val / 8) + n.val % 512, _⟩ : Fin 10240)))))
    (V m c main_arg4 (ix2 (group k) (⟨512 * (t.val / 8) + n.val % 512, _⟩ : Fin 10240))) = _
  rw [hn]

/-! ## The output -/

/-- The 2560 positions are the low ones and the high ones. -/
theorem sum_positions (f : Fin 2560 → EReal) : ∑ k : Fin 2560, f k = (∑ k : Fin 1280, f (lo k)) + ∑ k : Fin 1280, f (hi k) :=
  Fin.sum_univ_add (a := 1280) (b := 1280) f

/-- The product a point leaves, at an index. -/
theorem pay4_apply (x : Vec Ideal S1024x2560 .bf16) (w : Vec Ideal S2560x512 .bf16) (a : Fin 1024) (j : Fin 512) :
    k0_pay4 (F := Ideal) x w (ix2 a j) = (∑ k : Fin 2560, (x (ix2 a k) : EReal) * w (ix2 k j) : EReal) := by
  unfold k0_pay4
  have h := Ideal.matmul_plain_apply (M := 1024) (K := 2560) (N := 512) (φ₁ := .bf16) (φ₂ := .bf16) none x w (constant (F := Ideal) S1024x512 .f32 0x00000000#32) a j
  refine Eq.trans (b := FloatOps.matmul (F := Ideal) (φ₁ := .bf16) (φ₂ := .bf16) (DotDims.plain 1024 2560 512) none x w (constant (F := Ideal) S1024x512 .f32 0x00000000#32) (ix2 a j)) rfl (h.trans ?_)
  show Ideal.ofBits .f32 0x00000000#32 + _ = _
  rw [Ideal.ofBits_zero_f32, zero_add]

/-- The activations a point loads: its band of rows. -/
theorem ld_band (c : Dev nD) (r : Fin 8192) (q : Fin 8) (hq : q.val = r.val / 1024) (k : Fin 2560) :
    View.ld (actAll m c) (bandRect q) (ix2 (⟨r.val % 1024, by omega⟩ : Fin 1024) k) = actAll m c (ix2 r k) := by
  show actAll m c _ = actAll m c _
  refine congrArg (actAll m c) (funext fun b => Fin.ext ?_)
  match b with
  | ⟨0, _⟩ => show 1024 * q.val + 1 * (r.val % 1024) = r.val; omega
  | ⟨1, _⟩ => show 0 + 1 * k.val = k.val; omega

/-- One entry of the output: the low codes' sum and the high codes' sum. -/
theorem outEntry_eq (c : Dev nD) (r : Fin 8192) (n : Fin 10240) :
    outEntry m c r n
      = ((∑ k : Fin 1280, act (lowU (V m c main_v0 (ix2 r k))) (BitVec.toNat (w := 8) (V m c main_v2 (ix2 r (group k))))
            (V m c main_v1 (ix2 r (group k)))
          * wgt (signed (lowU (V m c main_arg3 (ix2 k n)))) (V m c main_arg4 (ix2 (group k) n)))
        + ∑ k : Fin 1280, act (highU (V m c main_v0 (ix2 r k))) (BitVec.toNat (w := 8) (V m c main_v2 (ix2 r (group k))))
            (V m c main_v1 (ix2 r (group k)))
          * wgt (signed (highU (V m c main_arg3 (ix2 k n)))) (V m c main_arg4 (ix2 (group k) n)) : EReal) := by
  have hN : (ptOut r n).val = 8 * (n.val / 512) + r.val / 1024 := rfl
  have hq : ((grid0.coords (ptOut r n) 1 : Fin 8)).val = r.val / 1024 :=
    (coords_eq (ptOut r n)).2.trans (by rw [hN]; omega)
  suffices key : ∀ q : Fin 8, q.val = r.val / 1024 →
      k0_pay4 (View.ld (actAll m c) (bandRect q)) (wAt m c (ptOut r n))
        (ix2 (⟨r.val % 1024, by omega⟩ : Fin 1024) (⟨n.val % 512, by omega⟩ : Fin 512)) = _ from
    key (grid0.coords (ptOut r n) 1) hq
  intro q hq
  refine (pay4_apply _ _ _ _).trans ?_
  rw [sum_positions]
  refine congrArg₂ (fun a b : EReal => a + b) (Finset.sum_congr rfl fun k _ => ?_) (Finset.sum_congr rfl fun k _ => ?_)
  · rw [ld_band m c r _ hq (lo k), actAll_lo, wAt_lo m c (ptOut r n) n (by rw [hN]; omega)]
  · rw [ld_band m c r _ hq (hi k), actAll_hi, wAt_hi m c (ptOut r n) n (by rw [hN]; omega)]

end Cert.KernelIdeal.Gen

end
-- ==== Proof.RefValue.lean ====
/- The reference's result at the ideal values: each entry is the sum over the low codes plus the sum over the high codes. -/
module

public import proofs.«01_k».proof.Proof.Gen.ReferenceIdeal.Run
public import proofs.«01_k».proof.Proof.Codes
public import Idealize.ShloMosaic.Lib.Pipeline.ValueKit.Tiles
public import Idealize.ShloMosaic.Lib.MatmulPlain

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Idealize.ShloMosaic.ValueIdx
open Cert.Codes
open scoped BigOperators

/-! ## Activations -/

/-- The reference's dequantization of the activations' fields. -/
def deqAct (fld : IVec S16x512x1280 32) (ps : Vec Ideal S16x512x20 .f32) (pz : Vec Ideal S16x512x20 .i8) : FVec Ideal S16x512x1280 .bf16 :=
  shapeCast S16x512x1280 (mulf (sitofp .bf16 (subi (shapeCast S16x512x20x64 fld shapeCasts_S16x512x1280_S16x512x20x64)
      (broadcastInDim S16x512x20x64 ![0, 1, 2, 3] bcast_S16x512x20x1_S16x512x20x64_0_1_2_3
        (broadcastInDim S16x512x20x1 ![0, 1, 2] bcast_S16x512x20_S16x512x20x1_0_1_2 (extui 32 pz natLt_8_32)))))
    (broadcastInDim S16x512x20x64 ![0, 1, 2, 3] bcast_S16x512x20x1_S16x512x20x64_0_1_2_3
      (broadcastInDim S16x512x20x1 ![0, 1, 2] bcast_S16x512x20_S16x512x20x1_0_1_2 (truncf .bf16 ps bitsLt_bf16_f32))))
    shapeCasts_S16x512x20x64_S16x512x1280

/-- A per-group table repeated along its group, at an index. -/
theorem perGroup_apply {α : Type} (x : S16x512x20.Idx → α) (b : Fin 16) (t : Fin 512) (g : Fin 20) (u : Fin 64) :
    broadcastInDim S16x512x20x64 ![0, 1, 2, 3] bcast_S16x512x20x1_S16x512x20x64_0_1_2_3
      (broadcastInDim S16x512x20x1 ![0, 1, 2] bcast_S16x512x20_S16x512x20x1_0_1_2 x) (ix4 b t g u) = x (ix3 b t g) := by
  rw [broadcastInDim_apply (k := ix4 b t g (0 : Fin 1)), broadcastInDim_apply (k := ix3 b t g)]
  · intro a
    match a with
    | ⟨0, _⟩ => rfl
    | ⟨1, _⟩ => rfl
    | ⟨2, _⟩ => rfl
  · intro a
    match a with
    | ⟨0, _⟩ => rfl
    | ⟨1, _⟩ => rfl
    | ⟨2, _⟩ => rfl
    | ⟨3, _⟩ => rfl

/-- The group of position `k`. -/
def group (k : Fin 1280) : Fin 20 := ⟨k.val / 64, by omega⟩

/-- A dequantized activation: the field less the group's zero point, times the group's scale. -/
theorem deqAct_apply (fld : IVec S16x512x1280 32) (ps : Vec Ideal S16x512x20 .f32) (pz : Vec Ideal S16x512x20 .i8)
    (b : Fin 16) (t : Fin 512) (k : Fin 1280) (hf : 0 ≤ (fld (ix3 b t k)).toInt ∧ (fld (ix3 b t k)).toInt < 16) :
    deqAct fld ps pz (ix3 b t k) = act (fld (ix3 b t k)).toInt (BitVec.toNat (w := 8) (pz (ix3 b t (group k)))) (ps (ix3 b t (group k))) := by
  unfold deqAct
  have e4 : ∀ {α : Type} (x : S16x512x20x64.Idx → α), shapeCast S16x512x1280 x shapeCasts_S16x512x20x64_S16x512x1280 (ix3 b t k)
      = x (ix4 b t (group k) (⟨k.val % 64, by omega⟩ : Fin 64)) := fun x => by
    refine shapeCast_apply x _ _ _ ?_
    refine (Shape.rowMajor_val_four _).trans ((?_ : _ = _).trans (Shape.rowMajor_val_three _).symm)
    show ((b.val * 512 + t.val) * 20 + k.val / 64) * 64 + k.val % 64 = (b.val * 512 + t.val) * 1280 + k.val
    omega
  have e3 : shapeCast S16x512x20x64 fld shapeCasts_S16x512x1280_S16x512x20x64 (ix4 b t (group k) (⟨k.val % 64, by omega⟩ : Fin 64))
      = fld (ix3 b t k) := by
    refine shapeCast_apply fld _ _ _ ?_
    refine (Shape.rowMajor_val_three _).trans ((?_ : _ = _).trans (Shape.rowMajor_val_four _).symm)
    show (b.val * 512 + t.val) * 1280 + k.val = ((b.val * 512 + t.val) * 20 + k.val / 64) * 64 + k.val % 64
    omega
  rw [e4]
  show (((shapeCast S16x512x20x64 fld shapeCasts_S16x512x1280_S16x512x20x64 (ix4 b t (group k) _)
      - broadcastInDim S16x512x20x64 _ _ (broadcastInDim S16x512x20x1 _ _ (extui 32 pz natLt_8_32)) (ix4 b t (group k) _)).toInt : ℝ) : EReal)
    * (broadcastInDim S16x512x20x64 _ _ (broadcastInDim S16x512x20x1 _ _ (truncf (F := Ideal) .bf16 ps bitsLt_bf16_f32)) (ix4 b t (group k) _) : EReal) = _
  rw [e3, perGroup_apply, perGroup_apply]
  show (((fld (ix3 b t k) - (BitVec.setWidth 32 (w := 8) (pz (ix3 b t (group k))))).toInt : ℝ) : EReal) * ps (ix3 b t (group k)) = _
  have hz : (BitVec.setWidth 32 (w := 8) (pz (ix3 b t (group k)))).toInt = (BitVec.toNat (w := 8) (pz (ix3 b t (group k))) : ℤ) := toInt_wide _
  have hlt : BitVec.toNat (w := 8) (pz (ix3 b t (group k))) < 256 := BitVec.isLt _
  rw [toInt_sub_small _ _ ⟨hf.1, by omega⟩ (by rw [hz]; omega), hz]
  rfl

/-! ## Weights -/

/-- The reference's sign correction of the weights' fields. -/
def signFix (fld : IVec S1280x10240 32) : IVec S1280x10240 32 :=
  select (cmpi .sge fld (broadcastInDim S1280x10240 ![] bcast_S_S1280x10240 (constantI S_ 32 8#32)))
    (subi fld (broadcastInDim S1280x10240 ![] bcast_S_S1280x10240 (constantI S_ 32 16#32))) fld

/-- The reference's dequantization of the weights' fields. -/
def deqWgt (fld : IVec S1280x10240 32) (s : Vec Ideal S20x10240 .f32) : FVec Ideal S1280x10240 .bf16 :=
  shapeCast S1280x10240 (mulf (shapeCast S20x64x10240 (sitofp .bf16 (signFix fld)) shapeCasts_S1280x10240_S20x64x10240)
    (broadcastInDim S20x64x10240 ![0, 1, 2] bcast_S20x1x10240_S20x64x10240_0_1_2
      (broadcastInDim S20x1x10240 ![0, 2] bcast_S20x10240_S20x1x10240_0_2 (truncf .bf16 s bitsLt_bf16_f32))))
    shapeCasts_S20x64x10240_S1280x10240

/-- A weight scale repeated along its group, at an index. -/
theorem perRow_apply {α : Type} (x : S20x10240.Idx → α) (g : Fin 20) (u : Fin 64) (n : Fin 10240) :
    broadcastInDim S20x64x10240 ![0, 1, 2] bcast_S20x1x10240_S20x64x10240_0_1_2
      (broadcastInDim S20x1x10240 ![0, 2] bcast_S20x10240_S20x1x10240_0_2 x) (ix3 g u n) = x (ix2 g n) := by
  rw [broadcastInDim_apply (k := ix3 g (0 : Fin 1) n), broadcastInDim_apply (k := ix2 g n)]
  · intro a
    match a with
    | ⟨0, _⟩ => rfl
    | ⟨1, _⟩ => rfl
  · intro a
    match a with
    | ⟨0, _⟩ => rfl
    | ⟨1, _⟩ => rfl
    | ⟨2, _⟩ => rfl

/-- A dequantized weight: the signed field times the group's scale. -/
theorem deqWgt_apply (fld : IVec S1280x10240 32) (s : Vec Ideal S20x10240 .f32) (k : Fin 1280) (n : Fin 10240)
    (hf : 0 ≤ (fld (ix2 k n)).toInt ∧ (fld (ix2 k n)).toInt < 16) :
    deqWgt fld s (ix2 k n) = wgt (signed (fld (ix2 k n)).toInt) (s (ix2 (group k) n)) := by
  unfold deqWgt
  have e3 : ∀ {α : Type} (x : S20x64x10240.Idx → α), shapeCast S1280x10240 x shapeCasts_S20x64x10240_S1280x10240 (ix2 k n)
      = x (ix3 (group k) (⟨k.val % 64, by omega⟩ : Fin 64) n) := fun x => by
    refine shapeCast_apply x _ _ _ ?_
    refine (Shape.rowMajor_val_three _).trans ((?_ : _ = _).trans (Shape.rowMajor_val_two _).symm)
    show (k.val / 64 * 64 + k.val % 64) * 10240 + n.val = k.val * 10240 + n.val
    omega
  have e2 : ∀ {α : Type} (x : S1280x10240.Idx → α), shapeCast S20x64x10240 x shapeCasts_S1280x10240_S20x64x10240
      (ix3 (group k) (⟨k.val % 64, by omega⟩ : Fin 64) n) = x (ix2 k n) := fun x => by
    refine shapeCast_apply x _ _ _ ?_
    refine (Shape.rowMajor_val_two _).trans ((?_ : _ = _).trans (Shape.rowMajor_val_three _).symm)
    show k.val * 10240 + n.val = (k.val / 64 * 64 + k.val % 64) * 10240 + n.val
    omega
  rw [e3]
  show (shapeCast S20x64x10240 (sitofp (F := Ideal) .bf16 (signFix fld)) shapeCasts_S1280x10240_S20x64x10240 (ix3 (group k) _ n) : EReal)
    * (broadcastInDim S20x64x10240 _ _ (broadcastInDim S20x1x10240 _ _ (truncf (F := Ideal) .bf16 s bitsLt_bf16_f32)) (ix3 (group k) _ n) : EReal) = _
  rw [e2, perRow_apply]
  have h := toInt_signed (fld (ix2 k n)) hf
  show (((if IntOp.cmpi .sge (fld (ix2 k n)) 8#32 = 1#1 then fld (ix2 k n) - 16#32 else fld (ix2 k n)).toInt : ℝ) : EReal)
    * s (ix2 (group k) n) = _
  rw [h]
  rfl

/-! ## The product -/

/-- The reference's product at an index. -/
theorem dot_apply (x : FVec Ideal S16x512x1280 .bf16) (w : FVec Ideal S1280x10240 .bf16) (b : Fin 16) (t : Fin 512) (n : Fin 10240) :
    Host.dotGeneral (F := Ideal) dot_S16x512x1280_S1280x10240_S16x512x10240_2_0_01_1_n_n none x w (ix3 b t n)
      = (∑ k : Fin 1280, (x (ix3 b t k) : EReal) * w (ix2 k n) : EReal) := by
  show FloatOps.dotGeneral _ none _ x w (ix3 b t n) = _
  rw [Ideal.dotGeneral_apply,
    ← Equiv.sum_comp (contrEquiv1 dot_S16x512x1280_S1280x10240_S16x512x10240_2_0_01_1_n_n 1280 rfl rfl).symm]
  refine Finset.sum_congr rfl fun k _ => ?_
  have hk := contrEquiv1_symm_val dot_S16x512x1280_S1280x10240_S16x512x10240_2_0_01_1_n_n 1280 rfl rfl k
  have el : (dot_S16x512x1280_S1280x10240_S16x512x10240_2_0_01_1_n_n).lhsIdx (ix3 b t n) ((contrEquiv1 _ 1280 rfl rfl).symm k)
      = ix3 b t k := by
    funext a; apply Fin.ext
    match a with
    | ⟨0, _⟩ => rfl
    | ⟨1, _⟩ => rfl
    | ⟨2, _⟩ => exact hk
  have er : (dot_S16x512x1280_S1280x10240_S16x512x10240_2_0_01_1_n_n).rhsIdx (ix3 b t n) ((contrEquiv1 _ 1280 rfl rfl).symm k)
      = ix2 k n := by
    funext a; apply Fin.ext
    match a with
    | ⟨0, _⟩ => exact hk
    | ⟨1, _⟩ => rfl
  rw [el, er]

/-! ## The result -/

/-- The activations' low fields. -/
def actLow (pa : Vec Ideal S16x512x1280 .i8) : IVec S16x512x1280 32 :=
  andi (extui 32 pa natLt_8_32) (broadcastInDim S16x512x1280 ![] bcast_S_S16x512x1280 (constantI S_ 32 15#32))
/-- The activations' high fields. -/
def actHigh (pa : Vec Ideal S16x512x1280 .i8) : IVec S16x512x1280 32 :=
  Host.shrsi (extui 32 pa natLt_8_32) (broadcastInDim S16x512x1280 ![] bcast_S_S16x512x1280 (constantI S_ 32 4#32))
/-- The weights' low fields. -/
def wgtLow (pw : Vec Ideal S1280x10240 .i8) : IVec S1280x10240 32 :=
  andi (extui 32 pw natLt_8_32) (broadcastInDim S1280x10240 ![] bcast_S_S1280x10240 (constantI S_ 32 15#32))
/-- The weights' high fields. -/
def wgtHigh (pw : Vec Ideal S1280x10240 .i8) : IVec S1280x10240 32 :=
  Host.shrsi (extui 32 pw natLt_8_32) (broadcastInDim S1280x10240 ![] bcast_S_S1280x10240 (constantI S_ 32 4#32))

theorem actLow_toInt (pa : Vec Ideal S16x512x1280 .i8) (j : S16x512x1280.Idx) : (actLow pa j).toInt = lowU (pa j) := toInt_wide_low _
theorem actHigh_toInt (pa : Vec Ideal S16x512x1280 .i8) (j : S16x512x1280.Idx) : (actHigh pa j).toInt = highU (pa j) := toInt_wide_high _
theorem wgtLow_toInt (pw : Vec Ideal S1280x10240 .i8) (j : S1280x10240.Idx) : (wgtLow pw j).toInt = lowU (pw j) := toInt_wide_low _
theorem wgtHigh_toInt (pw : Vec Ideal S1280x10240 .i8) (j : S1280x10240.Idx) : (wgtHigh pw j).toInt = highU (pw j) := toInt_wide_high _

/-- The reference's result, of its arguments. -/
def refOut (pa : Vec Ideal S16x512x1280 .i8) (ps : Vec Ideal S16x512x20 .f32) (pz : Vec Ideal S16x512x20 .i8)
    (pw : Vec Ideal S1280x10240 .i8) (ws : Vec Ideal S20x10240 .f32) : FVec Ideal S16x512x10240 .bf16 :=
  truncf .bf16 (addf
      (Host.dotGeneral dot_S16x512x1280_S1280x10240_S16x512x10240_2_0_01_1_n_n none (deqAct (actLow pa) ps pz) (deqWgt (wgtLow pw) ws))
      (Host.dotGeneral dot_S16x512x1280_S1280x10240_S16x512x10240_2_0_01_1_n_n none (deqAct (actHigh pa) ps pz) (deqWgt (wgtHigh pw) ws)))
    bitsLt_bf16_f32

/-- One entry of the reference's result. -/
theorem refOut_apply (pa : Vec Ideal S16x512x1280 .i8) (ps : Vec Ideal S16x512x20 .f32) (pz : Vec Ideal S16x512x20 .i8)
    (pw : Vec Ideal S1280x10240 .i8) (ws : Vec Ideal S20x10240 .f32) (b : Fin 16) (t : Fin 512) (n : Fin 10240) :
    refOut pa ps pz pw ws (ix3 b t n)
      = ((∑ k : Fin 1280, act (lowU (pa (ix3 b t k))) (BitVec.toNat (w := 8) (pz (ix3 b t (group k)))) (ps (ix3 b t (group k)))
          * wgt (signed (lowU (pw (ix2 k n)))) (ws (ix2 (group k) n)))
        + ∑ k : Fin 1280, act (highU (pa (ix3 b t k))) (BitVec.toNat (w := 8) (pz (ix3 b t (group k)))) (ps (ix3 b t (group k)))
          * wgt (signed (highU (pw (ix2 k n)))) (ws (ix2 (group k) n)) : EReal) := by
  unfold refOut
  show ((Host.dotGeneral (F := Ideal) dot_S16x512x1280_S1280x10240_S16x512x10240_2_0_01_1_n_n none _ _ (ix3 b t n) : EReal)
    + (Host.dotGeneral (F := Ideal) dot_S16x512x1280_S1280x10240_S16x512x10240_2_0_01_1_n_n none _ _ (ix3 b t n) : EReal)) = _
  rw [dot_apply, dot_apply]
  refine congrArg₂ (fun a b : EReal => a + b) (Finset.sum_congr rfl fun k _ => ?_) (Finset.sum_congr rfl fun k _ => ?_)
  · rw [deqAct_apply _ ps pz b t k (by rw [actLow_toInt]; exact lowU_bounds _), actLow_toInt,
      deqWgt_apply _ ws k n (by rw [wgtLow_toInt]; exact lowU_bounds _), wgtLow_toInt]
  · rw [deqAct_apply _ ps pz b t k (by rw [actHigh_toInt]; exact highU_bounds _), actHigh_toInt,
      deqWgt_apply _ ws k n (by rw [wgtHigh_toInt]; exact highU_bounds _), wgtHigh_toInt]

/-- The reference's run, read at the result and the arguments. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59) = refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.ReferenceIdeal.Value

end
-- ==== Proof.Equal.lean ====
/- The equation: at the ideal values the kernel's result is the reference's, entry by entry, and so the value claim. -/
module

public import proofs.«01_k».proof.Defs
public import proofs.«01_k».proof.Proof.KernelValue
public import proofs.«01_k».proof.Proof.RefValue

@[expose] public section

set_option maxRecDepth 16384

noncomputable section

namespace Cert.KernelIdeal.Gen

open Idealize.ShloMosaic Idealize.ShloMosaic.TcCoe Idealize.SL.Sem
open Idealize.ShloMosaic.ValueIdx
open Cert.Codes
open scoped BigOperators

variable (m : (ℓ : Loc nD τ sig) → Buf (Elt Ideal) ℓ)

/-- Row `t` of batch `b`, of the rows the kernel is given. -/
def row (b : Fin 16) (t : Fin 512) : Fin 8192 := ⟨b.val * 512 + t.val, by omega⟩

/-- The codes the kernel is given, at an index of the argument. -/
theorem codes_apply (c : Dev nD) (b : Fin 16) (t : Fin 512) (k : Fin 1280) :
    V m c main_v0 (ix2 (row b t) k) = m ((c : Thread nD τ).loc main_arg0) (ix3 b t k) := by
  rw [V_v0]
  refine shapeCast_apply _ _ _ _ ?_
  refine (Shape.rowMajor_val_three _).trans ((?_ : _ = _).trans (Shape.rowMajor_val_two _).symm)
  rfl

/-- The scales the kernel is given, at an index of the argument. -/
theorem scales_apply (c : Dev nD) (b : Fin 16) (t : Fin 512) (g : Fin 20) :
    V m c main_v1 (ix2 (row b t) g) = m ((c : Thread nD τ).loc main_arg1) (ix3 b t g) := by
  rw [V_v1]
  refine shapeCast_apply _ _ _ _ ?_
  refine (Shape.rowMajor_val_three _).trans ((?_ : _ = _).trans (Shape.rowMajor_val_two _).symm)
  rfl

/-- The zero points the kernel is given, at an index of the argument. -/
theorem zeros_apply (c : Dev nD) (b : Fin 16) (t : Fin 512) (g : Fin 20) :
    V m c main_v2 (ix2 (row b t) g) = m ((c : Thread nD τ).loc main_arg2) (ix3 b t g) := by
  rw [V_v2]
  refine shapeCast_apply _ _ _ _ ?_
  refine (Shape.rowMajor_val_three _).trans ((?_ : _ = _).trans (Shape.rowMajor_val_two _).symm)
  rfl

/-- The result at an index: the output's entry at the index's row and column. -/
theorem result_apply (c : Dev nD) (b : Fin 16) (t : Fin 512) (n : Fin 10240) :
    result m c (ix3 b t n) = outEntry m c (row b t) n := by
  unfold result
  have h : shapeCast S16x512x10240 (outAll m c) shapeCasts_S8192x10240_S16x512x10240 (ix3 b t n) = outAll m c (ix2 (row b t) n) := by
    refine shapeCast_apply _ _ _ _ ?_
    refine (Shape.rowMajor_val_two _).trans ((?_ : _ = _).trans (Shape.rowMajor_val_three _).symm)
    rfl
  exact h

/-- The kernel's result is the reference's at each index, of the same arguments. -/
theorem result_eq_apply (c : Dev nD) (b : Fin 16) (t : Fin 512) (n : Fin 10240) :
    result m c (ix3 b t n) = Cert.ReferenceIdeal.Value.refOut (m ((c : Thread nD τ).loc main_arg0)) (m ((c : Thread nD τ).loc main_arg1))
      (m ((c : Thread nD τ).loc main_arg2)) (m ((c : Thread nD τ).loc main_arg3)) (m ((c : Thread nD τ).loc main_arg4)) (ix3 b t n) := by
  refine (result_apply m c b t n).trans ((outEntry_eq m c (row b t) n).trans ?_)
  refine Eq.trans ?_ (Cert.ReferenceIdeal.Value.refOut_apply _ _ _ _ _ b t n).symm
  refine congrArg₂ (fun a b : EReal => a + b) (Finset.sum_congr rfl fun k _ => ?_) (Finset.sum_congr rfl fun k _ => ?_)
  · rw [codes_apply, scales_apply, zeros_apply, V_main_arg3, V_main_arg4]
    rfl
  · rw [codes_apply, scales_apply, zeros_apply, V_main_arg3, V_main_arg4]
    rfl

/-- The kernel's result is the reference's, of the same arguments. -/
theorem result_eq (c : Dev nD) :
    result m c = Cert.ReferenceIdeal.Value.refOut (m ((c : Thread nD τ).loc main_arg0)) (m ((c : Thread nD τ).loc main_arg1))
      (m ((c : Thread nD τ).loc main_arg2)) (m ((c : Thread nD τ).loc main_arg3)) (m ((c : Thread nD τ).loc main_arg4)) := by
  funext (j : S16x512x10240.Idx)
  rw [eq_ix3 j]
  exact result_eq_apply m c (j 0) (j 1) (j 2)

end Cert.KernelIdeal.Gen

namespace Cert.Proof

open Idealize.ShloMosaic Idealize.SL.Sem

/-- The value claim: from memories agreeing on the arguments the kernel and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Gen.result m c, ?_, ?_⟩
  · refine (θ_run _ _ _).mono (fun r h c => ⟨h.1 c, h.2 c⟩) (θ_run_and (Cert.KernelIdeal.Gen.run_result m g)
      (Cert.KernelIdeal.Gen.frame_of m g (Cert.KernelIdeal.Gen.dats m) (Cert.KernelIdeal.Gen.A_eq m) (Cert.KernelIdeal.Gen.run_main m g)))
  · refine (θ_run _ _ _).mono (fun r h c => ⟨(h c).1.trans ?_, (h c).2⟩) (Cert.ReferenceIdeal.Value.run_ref m' g')
    obtain ⟨e0, e1, e2, e3, e4⟩ := hargs c
    rw [e0, e1, e2, e3, e4]
    exact (Cert.KernelIdeal.Gen.result_eq m c).symm

end Cert.Proof

end
-- ==== Proof.lean ====
module

public import proofs.«01_k».proof.Defs
public import proofs.«01_k».proof.Proof.Frames
public import proofs.«01_k».proof.Proof.Equal

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_p, frame_pi, frame_ri, trivial, algebraic⟩

end Cert.Proof

end
